-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale_weight_over_nk" .f32 0x35888889#32 ((13421773 / 13194139533312 : ℝ) : EReal)
  ∧ IdealRules.named_const.Statement Cert.KernelIdeal.κ "rep_term" .f32 0x38CC599A#32 ((54854786251 / 562949953421312 : ℝ) : EReal)

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S4x2048x2048 : Shape := ⟨3, ![4, 2048, 2048]⟩
abbrev S4x2048x60 : Shape := ⟨3, ![4, 2048, 60]⟩
abbrev S4x2048x12 : Shape := ⟨3, ![4, 2048, 12]⟩
abbrev S4x2048 : Shape := ⟨2, ![4, 2048]⟩
abbrev S4 : Shape := ⟨1, ![4]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  reducesTo_S4x2048x2048_S4x2048_d2 : S4x2048x2048.ReducesTo [2] S4x2048
  reducesTo_S4x2048_S_d0_1 : S4x2048.ReducesTo [0, 1] S_
  bcast_S_S4x2048x60 : S_.BroadcastsInDim S4x2048x60 (![] : Fin 0 → Fin S4x2048x60.rank)
  reducesTo_S4x2048x60_S_d0_1_2 : S4x2048x60.ReducesTo [0, 1, 2] S_
  reducesTo_S4x2048x60_S4x2048_d2 : S4x2048x60.ReducesTo [2] S4x2048
  bcast_S_S4x2048 : S_.BroadcastsInDim S4x2048 (![] : Fin 0 → Fin S4x2048.rank)

variable [Facts]

def fn_part1 {F : FTy → Type} [FloatOps F] (main_arg4 : IVec S4x2048 32) (main_arg6 : IVec S4x2048 32) (main_v7 : IVec S_ 1) (main_v10 : IVec S_ 1) (main_v13 : IVec S4x2048 1) (main_c_7 : IVec S_ 1) : IVec S_ 1 :=
  let main_v14 : IVec S_ 1 := (fun x v => Host.reduce IntOp.andi x v reducesTo_S4x2048_S_d0_1 h_S_) main_v13 main_c_7
  let main_v15 : IVec S_ 1 := andi main_v10 main_v14
  let main_c_8 : IVec S_ 32 := constantI S_ 32 0#32
  let main_v16 : IVec S4x2048 32 := broadcastInDim S4x2048 ![] bcast_S_S4x2048 main_c_8
  let main_v17 : IVec S4x2048 1 := cmpi .sge main_arg4 main_v16
  let main_c_9 : IVec S_ 32 := constantI S_ 32 2048#32
  let main_v18 : IVec S4x2048 32 := broadcastInDim S4x2048 ![] bcast_S_S4x2048 main_c_9
  let main_v19 : IVec S4x2048 1 := cmpi .slt main_arg4 main_v18
  let main_v20 : IVec S4x2048 1 := andi main_v17 main_v19
  let main_c_10 : IVec S_ 1 := constantI S_ 1 1#1
  let main_v21 : IVec S_ 1 := (fun x v => Host.reduce IntOp.andi x v reducesTo_S4x2048_S_d0_1 h_S_) main_v20 main_c_10
  let main_c_11 : IVec S_ 32 := constantI S_ 32 0#32
  let main_v22 : IVec S4x2048 32 := broadcastInDim S4x2048 ![] bcast_S_S4x2048 main_c_11
  let main_v23 : IVec S4x2048 1 := cmpi .sge main_arg6 main_v22
  let main_c_12 : IVec S_ 32 := constantI S_ 32 60#32
  let main_v24 : IVec S4x2048 32 := broadcastInDim S4x2048 ![] bcast_S_S4x2048 main_c_12
  let main_v25 : IVec S4x2048 1 := cmpi .slt main_arg6 main_v24
  let main_v26 : IVec S4x2048 1 := andi main_v23 main_v25
  let main_c_13 : IVec S_ 1 := constantI S_ 1 1#1
  let main_v27 : IVec S_ 1 := (fun x v => Host.reduce IntOp.andi x v reducesTo_S4x2048_S_d0_1 h_S_) main_v26 main_c_13
  let main_v28 : IVec S_ 1 := andi main_v7 main_v15
  let main_v29 : IVec S_ 1 := andi main_v28 main_v21
  let main_v30 : IVec S_ 1 := andi main_v29 main_v27
  main_v30

def fn {F : FTy → Type} [FloatOps F] (main_arg0 : FVec F S4x2048x2048 .f32) (main_arg1 : FVec F S4x2048x60 .f32) (main_arg2 : FVec F S4x2048x12 .f32) (main_arg3 : FVec F S4x2048x12 .f32) (main_arg4 : IVec S4x2048 32) (main_arg5 : IVec S4 32) (main_arg6 : IVec S4x2048 32) : IVec S_ 1 :=
  let main_cst : FVec F S_ .f32 := constant S_ .f32 0x7F800000#32
  let main_v0 : FVec F S4x2048x2048 .f32 := broadcastInDim S4x2048x2048 ![] bcast_S_S4x2048x2048 main_cst
  let main_v1 : IVec S4x2048x2048 1 := cmpf .olt main_arg0 main_v0
  let main_c : IVec S_ 1 := constantI S_ 1 1#1
  let main_v2 : IVec S_ 1 := (fun x v => Host.reduce IntOp.andi x v reducesTo_S4x2048x2048_S_d0_1_2 h_S_) main_v1 main_c
  let main_cst_0 : FVec F S_ .f32 := constant S_ .f32 0xFF800000#32
  let main_v3 : FVec F S4x2048x2048 .f32 := broadcastInDim S4x2048x2048 ![] bcast_S_S4x2048x2048 main_cst_0
  let main_v4 : IVec S4x2048x2048 1 := cmpf .ogt main_arg0 main_v3
  let main_c_1 : IVec S_ 1 := constantI S_ 1 0#1
  let main_v5 : IVec S4x2048 1 := (fun x v => Host.reduce IntOp.ori x v reducesTo_S4x2048x2048_S4x2048_d2 h_S_) main_v4 main_c_1
  let main_c_2 : IVec S_ 1 := constantI S_ 1 1#1
  let main_v6 : IVec S_ 1 := (fun x v => Host.reduce IntOp.andi x v reducesTo_S4x2048_S_d0_1 h_S_) main_v5 main_c_2
  let main_v7 : IVec S_ 1 := andi main_v2 main_v6
  let main_cst_3 : FVec F S_ .f32 := constant S_ .f32 0x7F800000#32
  let main_v8 : FVec F S4x2048x60 .f32 := broadcastInDim S4x2048x60 ![] bcast_S_S4x2048x60 main_cst_3
  let main_v9 : IVec S4x2048x60 1 := cmpf .olt main_arg1 main_v8
  let main_c_4 : IVec S_ 1 := constantI S_ 1 1#1
  let main_v10 : IVec S_ 1 := (fun x v => Host.reduce IntOp.andi x v reducesTo_S4x2048x60_S_d0_1_2 h_S_) main_v9 main_c_4
  let main_cst_5 : FVec F S_ .f32 := constant S_ .f32 0xFF800000#32
  let main_v11 : FVec F S4x2048x60 .f32 := broadcastInDim S4x2048x60 ![] bcast_S_S4x2048x60 main_cst_5
  let main_v12 : IVec S4x2048x60 1 := cmpf .ogt main_arg1 main_v11
  let main_c_6 : IVec S_ 1 := constantI S_ 1 0#1
  let main_v13 : IVec S4x2048 1 := (fun x v => Host.reduce IntOp.ori x v reducesTo_S4x2048x60_S4x2048_d2 h_S_) main_v12 main_c_6
  let main_c_7 : IVec S_ 1 := constantI S_ 1 1#1
  fn_part1 (F := F) main_arg4 main_arg6 main_v7 main_v10 main_v13 main_c_7
-- ==== Kernel.lean ====
abbrev S4x2048x2048 : Shape := ⟨3, ![4, 2048, 2048]⟩
abbrev S4x2048x60 : Shape := ⟨3, ![4, 2048, 60]⟩
abbrev S4x2048x12 : Shape := ⟨3, ![4, 2048, 12]⟩
abbrev S4x2048 : Shape := ⟨2, ![4, 2048]⟩
abbrev S4 : Shape := ⟨1, ![4]⟩
abbrev S4x2048x1 : Shape := ⟨3, ![4, 2048, 1]⟩
abbrev S4x2048x2 : Shape := ⟨3, ![4, 2048, 2]⟩
abbrev S1x1 : Shape := ⟨2, ![1, 1]⟩
abbrev S1x512x2048 : Shape := ⟨3, ![1, 512, 2048]⟩
abbrev S1x512x2 : Shape := ⟨3, ![1, 512, 2]⟩
abbrev S1x512x60 : Shape := ⟨3, ![1, 512, 60]⟩
abbrev S1x512x12 : Shape := ⟨3, ![1, 512, 12]⟩
abbrev S512x2048 : Shape := ⟨2, ![512, 2048]⟩
abbrev S512x2 : Shape := ⟨2, ![512, 2]⟩
abbrev S512x1 : Shape := ⟨2, ![512, 1]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S512x60 : Shape := ⟨2, ![512, 60]⟩
abbrev S512x12 : Shape := ⟨2, ![512, 12]⟩
abbrev S_ : Shape := ⟨0, ![]⟩

abbrev nBuf : Space → Nat
  | .hbm => 12
  | .vmem => 10
  | .smem => 1
  | _ => 0

abbrev bufTy : (tb : Table) → Fin (tcTables nBuf tb) → BufTy
  | .hbm, ⟨0, _⟩ => ⟨S4x2048x2048, .f32⟩
  | .hbm, ⟨1, _⟩ => ⟨S4x2048x60, .f32⟩
  | .hbm, ⟨2, _⟩ => ⟨S4x2048x12, .f32⟩
  | .hbm, ⟨3, _⟩ => ⟨S4x2048x12, .f32⟩
  | .hbm, ⟨4, _⟩ => ⟨S4x2048, .i32⟩
  | .hbm, ⟨5, _⟩ => ⟨S4, .i32⟩
  | .hbm, ⟨6, _⟩ => ⟨S4x2048, .i32⟩
  | .hbm, ⟨7, _⟩ => ⟨S4x2048x1, .i32⟩
  | .hbm, ⟨8, _⟩ => ⟨S4x2048x1, .i32⟩
  | .hbm, ⟨9, _⟩ => ⟨S4x2048x2, .i32⟩
  | .hbm, ⟨10, _⟩ => ⟨S1x1, .f32⟩
  | .hbm, ⟨11, _⟩ => ⟨S_, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2, .i32⟩
  | .local _ .vmem, ⟨3, _⟩ => ⟨S1x512x2, .i32⟩
  | .local _ .vmem, ⟨4, _⟩ => ⟨S1x512x60, .f32⟩
  | .local _ .vmem, ⟨5, _⟩ => ⟨S1x512x60, .f32⟩
  | .local _ .vmem, ⟨6, _⟩ => ⟨S1x512x12, .f32⟩
  | .local _ .vmem, ⟨7, _⟩ => ⟨S1x512x12, .f32⟩
  | .local _ .vmem, ⟨8, _⟩ => ⟨S1x512x12, .f32⟩
  | .local _ .vmem, ⟨9, _⟩ => ⟨S1x512x12, .f32⟩
  | .local _ .smem, ⟨0, _⟩ => ⟨S1x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "rep_term" => some ((54854786251 / 562949953421312 : ℝ) : EReal)
  | "scale_weight_over_nk" => some ((13421773 / 13194139533312 : ℝ) : EReal)
  | _ => none
-- ==== ReferenceIdeal.lean ====
abbrev S4x2048x2048 : Shape := ⟨3, ![4, 2048, 2048]⟩
abbrev S4x2048x60 : Shape := ⟨3, ![4, 2048, 60]⟩
abbrev S4x2048x12 : Shape := ⟨3, ![4, 2048, 12]⟩
abbrev S4x2048 : Shape := ⟨2, ![4, 2048]⟩
abbrev S4 : Shape := ⟨1, ![4]⟩
abbrev S_ : Shape := ⟨0, ![]⟩
abbrev S4x2048x1 : Shape := ⟨3, ![4, 2048, 1]⟩
abbrev S4x2048x1x1 : Shape := ⟨4, ![4, 2048, 1, 1]⟩
abbrev S1 : Shape := ⟨1, ![1]⟩
abbrev S1x1x1x1 : Shape := ⟨4, ![1, 1, 1, 1]⟩
abbrev S4x1 : Shape := ⟨2, ![4, 1]⟩
abbrev S4x2047 : Shape := ⟨2, ![4, 2047]⟩
abbrev S1x1x2048 : Shape := ⟨3, ![1, 1, 2048]⟩
abbrev S4x2049x2048 : Shape := ⟨3, ![4, 2049, 2048]⟩
abbrev S4x2057x2048 : Shape := ⟨3, ![4, 2057, 2048]⟩

abbrev nBuf : Space → Nat
  | .hbm => 174
  | .vmem => 0
  | .smem => 0
  | _ => 0

abbrev hbmTy0_0 (i : Nat) : BufTy := match i % 128 with
  | 0 => ⟨S4x2048x2048, .f32⟩
  | 1 => ⟨S4x2048x60, .f32⟩
  | 2 => ⟨S4x2048x12, .f32⟩
  | 3 => ⟨S4x2048x12, .f32⟩
  | 4 => ⟨S4x2048, .i32⟩
  | 5 => ⟨S4, .i32⟩
  | 6 => ⟨S4x2048, .i32⟩
  | 7 => ⟨S_, .f32⟩
  | 8 => ⟨S4x2048, .f32⟩
  | 9 => ⟨S_, .f32⟩
  | 10 => ⟨S4x2048, .f32⟩
  | 11 => ⟨S4x2048, .f32⟩
  | 12 => ⟨S4x2048x1, .f32⟩
  | 13 => ⟨S4x2048x2048, .f32⟩
  | 14 => ⟨S4x2048x2048, .f32⟩
  | 15 => ⟨S4x2048x2048, .f32⟩
  | 16 => ⟨S_, .f32⟩
  | 17 => ⟨S4x2048, .f32⟩
  | 18 => ⟨S4x2048x1, .f32⟩
  | 19 => ⟨S4x2048x1, .f32⟩
  | 20 => ⟨S4x2048x2048, .f32⟩
  | 21 => ⟨S4x2048x2048, .f32⟩
  | 22 => ⟨S_, .i32⟩
  | 23 => ⟨S4x2048, .i32⟩
  | 24 => ⟨S4x2048, .i1⟩
  | 25 => ⟨S_, .i32⟩
  | 26 => ⟨S_, .i32⟩
  | 27 => ⟨S4x2048, .i32⟩
  | 28 => ⟨S4x2048, .i32⟩
  | 29 => ⟨S4x2048x1, .i32⟩
  | 30 => ⟨S_, .i32⟩
  | 31 => ⟨S4x2048x1, .i32⟩
  | 32 => ⟨S4x2048x1, .i1⟩
  | 33 => ⟨S_, .i32⟩
  | 34 => ⟨S4x2048x1, .i32⟩
  | 35 => ⟨S4x2048x1, .i32⟩
  | 36 => ⟨S4x2048x1, .i32⟩
  | 37 => ⟨S4x2048x1x1, .i32⟩
  | 38 => ⟨S1, .i32⟩
  | 39 => ⟨S_, .i32⟩
  | 40 => ⟨S4x2048x1x1, .i32⟩
  | 41 => ⟨S4x2048x1x1, .i1⟩
  | 42 => ⟨S1x1x1x1, .i32⟩
  | 43 => ⟨S4x2048x1x1, .i32⟩
  | 44 => ⟨S4x2048x1x1, .i1⟩
  | 45 => ⟨S4x2048x1x1, .i1⟩
  | 46 => ⟨S_, .i1⟩
  | 47 => ⟨S4x2048x1, .i1⟩
  | 48 => ⟨S4x2048x1, .f32⟩
  | 49 => ⟨S_, .f32⟩
  | 50 => ⟨S4x2048x1, .f32⟩
  | 51 => ⟨S4x2048x1, .f32⟩
  | 52 => ⟨S4x2048, .f32⟩
  | 53 => ⟨S4x2048, .f32⟩
  | 54 => ⟨S4x2048, .i32⟩
  | 55 => ⟨S_, .i32⟩
  | 56 => ⟨S_, .i32⟩
  | 57 => ⟨S_, .i32⟩
  | 58 => ⟨S_, .i32⟩
  | 59 => ⟨S4x2048, .f32⟩
  | 60 => ⟨S4x2048, .f32⟩
  | 61 => ⟨S_, .f32⟩
  | 62 => ⟨S_, .f32⟩
  | 63 => ⟨S_, .f32⟩
  | 64 => ⟨S_, .f32⟩
  | 65 => ⟨S_, .i32⟩
  | 66 => ⟨S4x1, .i32⟩
  | 67 => ⟨S4x2047, .i32⟩
  | 68 => ⟨S4x2048, .i32⟩
  | 69 => ⟨S4x2048x1, .i32⟩
  | 70 => ⟨S1x1x2048, .i32⟩
  | 71 => ⟨S4x2048x2048, .i32⟩
  | 72 => ⟨S4x2048x2048, .i32⟩
  | 73 => ⟨S4x2048x2048, .i1⟩
  | 74 => ⟨S4x2048x2048, .f32⟩
  | 75 => ⟨S_, .f32⟩
  | 76 => ⟨S_, .f32⟩
  | 77 => ⟨S4x2048x2048, .f32⟩
  | 78 => ⟨S_, .i32⟩
  | 79 => ⟨S_, .f32⟩
  | 80 => ⟨S4x2049x2048, .f32⟩
  | 81 => ⟨S4x2048x2048, .f32⟩
  | 82 => ⟨S_, .i32⟩
  | 83 => ⟨S_, .f32⟩
  | 84 => ⟨S4x2057x2048, .f32⟩
  | 85 => ⟨S4x2048x2048, .f32⟩
  | 86 => ⟨S4x2048x2048, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S4x2048, .f32⟩
  | 95 => ⟨S_, .f32⟩
  | 96 => ⟨S4x2048, .f32⟩
  | 97 => ⟨S4x2048, .f32⟩
  | 98 => ⟨S4x2048x1, .f32⟩
  | 99 => ⟨S4x2048x60, .f32⟩
  | 100 => ⟨S4x2048x60, .f32⟩
  | 101 => ⟨S4x2048x60, .f32⟩
  | 102 => ⟨S_, .f32⟩
  | 103 => ⟨S4x2048, .f32⟩
  | 104 => ⟨S4x2048x1, .f32⟩
  | 105 => ⟨S4x2048x1, .f32⟩
  | 106 => ⟨S4x2048x60, .f32⟩
  | 107 => ⟨S4x2048x60, .f32⟩
  | 108 => ⟨S_, .i32⟩
  | 109 => ⟨S4x2048, .i32⟩
  | 110 => ⟨S4x2048, .i1⟩
  | 111 => ⟨S_, .i32⟩
  | 112 => ⟨S_, .i32⟩
  | 113 => ⟨S4x2048, .i32⟩
  | 114 => ⟨S4x2048, .i32⟩
  | 115 => ⟨S4x2048x1, .i32⟩
  | 116 => ⟨S_, .i32⟩
  | 117 => ⟨S4x2048x1, .i32⟩
  | 118 => ⟨S4x2048x1, .i1⟩
  | 119 => ⟨S_, .i32⟩
  | 120 => ⟨S4x2048x1, .i32⟩
  | 121 => ⟨S4x2048x1, .i32⟩
  | 122 => ⟨S4x2048x1, .i32⟩
  | 123 => ⟨S4x2048x1x1, .i32⟩
  | 124 => ⟨S1, .i32⟩
  | 125 => ⟨S_, .i32⟩
  | 126 => ⟨S4x2048x1x1, .i32⟩
  | 127 => ⟨S4x2048x1x1, .i1⟩
  | _ => ⟨S4x2048x2048, .f32⟩

abbrev hbmTy0_1 (i : Nat) : BufTy := match i % 128 with
  | 0 => ⟨S1x1x1x1, .i32⟩
  | 1 => ⟨S4x2048x1x1, .i32⟩
  | 2 => ⟨S4x2048x1x1, .i1⟩
  | 3 => ⟨S4x2048x1x1, .i1⟩
  | 4 => ⟨S_, .i1⟩
  | 5 => ⟨S4x2048x1, .i1⟩
  | 6 => ⟨S4x2048x1, .f32⟩
  | 7 => ⟨S_, .f32⟩
  | 8 => ⟨S4x2048x1, .f32⟩
  | 9 => ⟨S4x2048x1, .f32⟩
  | 10 => ⟨S4x2048, .f32⟩
  | 11 => ⟨S4x2048, .f32⟩
  | 12 => ⟨S4x2048, .i32⟩
  | 13 => ⟨S_, .i32⟩
  | 14 => ⟨S_, .i32⟩
  | 15 => ⟨S_, .i32⟩
  | 16 => ⟨S_, .i32⟩
  | 17 => ⟨S4x2048, .f32⟩
  | 18 => ⟨S4x2048, .f32⟩
  | 19 => ⟨S_, .f32⟩
  | 20 => ⟨S_, .f32⟩
  | 21 => ⟨S_, .f32⟩
  | 22 => ⟨S_, .f32⟩
  | 23 => ⟨S_, .f32⟩
  | 24 => ⟨S4x2048x12, .f32⟩
  | 25 => ⟨S4x2048x12, .f32⟩
  | 26 => ⟨S4x2048x12, .f32⟩
  | 27 => ⟨S4x2048x12, .f32⟩
  | 28 => ⟨S4x2048x12, .f32⟩
  | 29 => ⟨S4x2048x12, .f32⟩
  | 30 => ⟨S4x2048x12, .f32⟩
  | 31 => ⟨S4x2048x12, .f32⟩
  | 32 => ⟨S4x2048x12, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_v3 : Ref sig .tc := ⟨.hbm, 28, rfl⟩
abbrev main_v4 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_c_1 : Ref sig .tc := ⟨.hbm, 55, rfl⟩
abbrev main_v9 : Ref sig .tc := ⟨.hbm, 56, rfl⟩
abbrev main_c_2 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_cst : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_3 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v19 : Ref sig .tc := ⟨.hbm, 74, rfl⟩
abbrev main_call4_call0_cst : Ref sig .tc := ⟨.hbm, 75, rfl⟩
abbrev main_call4_call0_v0 : Ref sig .tc := ⟨.hbm, 76, rfl⟩
abbrev main_v20 : Ref sig .tc := ⟨.hbm, 77, rfl⟩
abbrev main_c_4 : Ref sig .tc := ⟨.hbm, 78, rfl⟩
abbrev main_call5_v0 : Ref sig .tc := ⟨.hbm, 79, rfl⟩
abbrev main_v21 : Ref sig .tc := ⟨.hbm, 80, rfl⟩
abbrev main_v22 : Ref sig .tc := ⟨.hbm, 81, rfl⟩
abbrev main_c_5 : Ref sig .tc := ⟨.hbm, 82, rfl⟩
abbrev main_call6_v0 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_cst_6 : Ref sig .tc := ⟨.hbm, 87, rfl⟩
abbrev main_v26 : Ref sig .tc := ⟨.hbm, 88, rfl⟩
abbrev main_cst_7 : Ref sig .tc := ⟨.hbm, 89, rfl⟩
abbrev main_v27 : Ref sig .tc := ⟨.hbm, 90, rfl⟩
abbrev main_cst_8 : Ref sig .tc := ⟨.hbm, 91, rfl⟩
abbrev main_v28 : Ref sig .tc := ⟨.hbm, 92, rfl⟩
abbrev main_call7_cst : Ref sig .tc := ⟨.hbm, 93, rfl⟩
abbrev main_call7_v0 : Ref sig .tc := ⟨.hbm, 94, rfl⟩
abbrev main_call7_cst_0 : Ref sig .tc := ⟨.hbm, 95, rfl⟩
abbrev main_call7_v1 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_call7_v5 : Ref sig .tc := ⟨.hbm, 100, rfl⟩
abbrev main_call7_v6 : Ref sig .tc := ⟨.hbm, 101, rfl⟩
abbrev main_call7_cst_1 : Ref sig .tc := ⟨.hbm, 102, rfl⟩
abbrev main_call7_v7 : Ref sig .tc := ⟨.hbm, 103, rfl⟩
abbrev main_call7_v8 : Ref sig .tc := ⟨.hbm, 104, rfl⟩
abbrev main_call7_v9 : Ref sig .tc := ⟨.hbm, 105, rfl⟩
abbrev main_call7_v10 : Ref sig .tc := ⟨.hbm, 106, rfl⟩
abbrev main_v29 : Ref sig .tc := ⟨.hbm, 107, rfl⟩
abbrev main_c_9 : Ref sig .tc := ⟨.hbm, 108, rfl⟩
abbrev main_v30 : Ref sig .tc := ⟨.hbm, 109, rfl⟩
abbrev main_v31 : Ref sig .tc := ⟨.hbm, 110, rfl⟩
abbrev main_c_10 : Ref sig .tc := ⟨.hbm, 111, rfl⟩
abbrev main_call8_v0 : Ref sig .tc := ⟨.hbm, 112, rfl⟩
abbrev main_call8_v1 : Ref sig .tc := ⟨.hbm, 113, rfl⟩
abbrev main_v32 : Ref sig .tc := ⟨.hbm, 114, rfl⟩
abbrev main_v33 : Ref sig .tc := ⟨.hbm, 115, rfl⟩
abbrev main_call9_c : Ref sig .tc := ⟨.hbm, 116, rfl⟩
abbrev main_call9_v0 : Ref sig .tc := ⟨.hbm, 117, rfl⟩
abbrev main_call9_v1 : Ref sig .tc := ⟨.hbm, 118, rfl⟩
abbrev main_call9_c_0 : Ref sig .tc := ⟨.hbm, 119, rfl⟩
abbrev main_call9_v2 : Ref sig .tc := ⟨.hbm, 120, rfl⟩
abbrev main_call9_v3 : Ref sig .tc := ⟨.hbm, 121, rfl⟩
abbrev main_call9_v4 : Ref sig .tc := ⟨.hbm, 122, rfl⟩
abbrev main_call9_v5 : Ref sig .tc := ⟨.hbm, 123, rfl⟩
abbrev main_call9_c_1 : Ref sig .tc := ⟨.hbm, 124, rfl⟩
abbrev main_call9_c_2 : Ref sig .tc := ⟨.hbm, 125, rfl⟩
abbrev main_call9_v6 : Ref sig .tc := ⟨.hbm, 126, rfl⟩
abbrev main_call9_v7 : Ref sig .tc := ⟨.hbm, 127, rfl⟩
abbrev main_call9_v8 : Ref sig .tc := ⟨.hbm, 128, rfl⟩
abbrev main_call9_v9 : Ref sig .tc := ⟨.hbm, 129, rfl⟩
abbrev main_call9_v10 : Ref sig .tc := ⟨.hbm, 130, rfl⟩
abbrev main_call9_v11 : Ref sig .tc := ⟨.hbm, 131, rfl⟩
abbrev main_call9_c_3 : Ref sig .tc := ⟨.hbm, 132, rfl⟩
abbrev main_call9_v12 : Ref sig .tc := ⟨.hbm, 133, rfl⟩
abbrev main_call9_v13 : Ref sig .tc := ⟨.hbm, 134, rfl⟩
abbrev main_call9_cst : Ref sig .tc := ⟨.hbm, 135, rfl⟩
abbrev main_call9_v14 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_c_11 : Ref sig .tc := ⟨.hbm, 141, rfl⟩
abbrev main_v38 : Ref sig .tc := ⟨.hbm, 142, rfl⟩
abbrev main_c_12 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_cst_13 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_cst_14 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_cst_15 : Ref sig .tc := ⟨.hbm, 161, rfl⟩
abbrev main_v54 : Ref sig .tc := ⟨.hbm, 162, rfl⟩
abbrev main_cst_16 : Ref sig .tc := ⟨.hbm, 163, rfl⟩
abbrev main_v55 : Ref sig .tc := ⟨.hbm, 164, rfl⟩
abbrev main_cst_17 : Ref sig .tc := ⟨.hbm, 165, rfl⟩
abbrev main_v56 : Ref sig .tc := ⟨.hbm, 166, rfl⟩
abbrev main_v57 : Ref sig .tc := ⟨.hbm, 167, rfl⟩
abbrev main_cst_18 : Ref sig .tc := ⟨.hbm, 168, rfl⟩
abbrev main_v58 : Ref sig .tc := ⟨.hbm, 169, rfl⟩
abbrev main_v59 : Ref sig .tc := ⟨.hbm, 170, rfl⟩
abbrev main_cst_19 : Ref sig .tc := ⟨.hbm, 171, rfl⟩
abbrev main_v60 : Ref sig .tc := ⟨.hbm, 172, rfl⟩
abbrev main_v61 : Ref sig .tc := ⟨.hbm, 173, rfl⟩

abbrev nD : Nat := 1
abbrev τ : Topo := Topo.v7x

variable {F : FTy → Type} [FloatOps F]
-- ==== Proof.Blocks.lean ====
/- UNTRUSTED — the blocks that a step of the kernel reads, as entries of the program's arguments: step `t` reads 512 consecutive
   tokens of batch `t / 4`, starting at token `t % 4 * 512`. -/
module

public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ) (c : Dev nD)

/-- The batch of step `t`. -/
def batch (t : Fin cfg0.N) : Fin 4 := ⟨t.val / 4, by have := t.isLt; have : cfg0.N = 16 := N_0; omega⟩

/-- The token of row `r` of step `t`. -/
def token (t : Fin cfg0.N) (r : Fin 512) : Fin 2048 := ⟨t.val % 4 * 512 + r.val, by have := r.isLt; omega⟩

/-- Which block each window holds at step `t`. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0] :=
  (by decide +kernel : ∀ t : Fin grid0.N, _)

/-- The main logits' block. -/
theorem main_logits (t : Fin cfg0.N) (r : Fin 512) (v : Fin 2048) : (iblk m c 0 t : Vec Ideal S1x512x2048 .f32) (ix3 0 r v)
    = m ((c.tc : Thread nD τ).loc main_arg0) (ix3 (batch t) (token t r) v) := by
  unfold batch token
  blk_point [iblk, V, idx t]

/-- The chord logits' block. -/
theorem chord_logits (t : Fin cfg0.N) (r : Fin 512) (v : Fin 60) : (iblk m c 2 t : Vec Ideal S1x512x60 .f32) (ix3 0 r v)
    = m ((c.tc : Thread nD τ).loc main_arg1) (ix3 (batch t) (token t r) v) := by
  unfold batch token
  blk_point [iblk, V, idx t]

/-- The scale logits' block. -/
theorem scale_logits (t : Fin cfg0.N) (r : Fin 512) (v : Fin 12) : (iblk m c 3 t : Vec Ideal S1x512x12 .f32) (ix3 0 r v)
    = m ((c.tc : Thread nD τ).loc main_arg2) (ix3 (batch t) (token t r) v) := by
  unfold batch token
  blk_point [iblk, V, idx t]

/-- The scale targets' block. -/
theorem scale_targets (t : Fin cfg0.N) (r : Fin 512) (v : Fin 12) : (iblk m c 4 t : Vec Ideal S1x512x12 .f32) (ix3 0 r v)
    = m ((c.tc : Thread nD τ).loc main_arg3) (ix3 (batch t) (token t r) v) := by
  unfold batch token
  blk_point [iblk, V, idx t]

/-- The two labels of every token, stacked: the main label, then the chord label. -/
def stacked (T U : (⟨S4x2048, .i32⟩ : BufTy).Contents (Elt Ideal)) : (⟨S4x2048x2, .i32⟩ : BufTy).Contents (Elt Ideal) :=
  concatenate S4x2048x2 2 [⟨S4x2048x1, broadcastInDim S4x2048x1 ![0, 1] bcast_S4x2048_S4x2048x1_0_1 T⟩, ⟨S4x2048x1, broadcastInDim S4x2048x1 ![0, 1] bcast_S4x2048_S4x2048x1_0_1 U⟩]
    concatenates_S4x2048x1_S4x2048x1_S4x2048x2_d2

/-- What the labels' array holds when the kernel starts. -/
theorem labels_entry : (V m c main_v2 : Vec Ideal S4x2048x2 .i32) = stacked (m ((c.tc : Thread nD τ).loc main_arg4)) (m ((c.tc : Thread nD τ).loc main_arg6)) := by
  entry_read
  rfl

/-- The first of a token's pair is its main label. -/
theorem stacked_main (T U : Vec Ideal S4x2048 .i32) (a : Fin 4) (s : Fin 2048) : stacked T U (ix3 a s 0) = T (ix2 a s) := by
  pointwise [stacked]

/-- The second of a token's pair is its chord label. -/
theorem stacked_chord (T U : Vec Ideal S4x2048 .i32) (a : Fin 4) (s : Fin 2048) : stacked T U (ix3 a s 1) = U (ix2 a s) := by
  pointwise [stacked]

/-- The labels' block: the tokens' pairs. -/
theorem labels (t : Fin cfg0.N) (r : Fin 512) (e : Fin 2) : (iblk m c 1 t : Vec Ideal S1x512x2 .i32) (ix3 0 r e)
    = (V m c main_v2 : Vec Ideal S4x2048x2 .i32) (ix3 (batch t) (token t r) e) := by
  unfold batch token
  blk_point [iblk, idx t]

/-- Column 0 of the labels' block: the main labels. -/
theorem main_labels (t : Fin cfg0.N) (r : Fin 512) : (iblk m c 1 t : Vec Ideal S1x512x2 .i32) (ix3 0 r 0)
    = m ((c.tc : Thread nD τ).loc main_arg4) (ix2 (batch t) (token t r)) := by
  rw [labels, labels_entry, stacked_main]

/-- Column 1 of the labels' block: the chord labels. -/
theorem chord_labels (t : Fin cfg0.N) (r : Fin 512) : (iblk m c 1 t : Vec Ideal S1x512x2 .i32) (ix3 0 r 1)
    = m ((c.tc : Thread nD τ).loc main_arg6) (ix2 (batch t) (token t r)) := by
  rw [labels, labels_entry, stacked_chord]

end Cert.KernelIdeal.Blocks

end
-- ==== Proof.Losses.lean ====
/- UNTRUSTED — the two losses that both programs sum, each of one position, and a label picked out of a row by comparison.
   Nothing here depends on a program. -/
module

public import Idealize.ShloMosaic.Lib.Pointwise

@[expose] public section

noncomputable section

namespace Cert.Losses

open Idealize.ShloMosaic Idealize.SL.Sem

/-- What a row of logits `x` loses at the label `k`: the logarithm of the sum of its exponentials, less the label's logit. -/
def rowLoss {n : ℕ} (x : Fin n → EReal) (k : Fin n) : EReal := Ideal.log (∑ v, Ideal.exp (x v)) - x k

/-- The binary cross entropy of one logit `x` against its target `y`. -/
def entryLoss (x y : EReal) : EReal := max x 0 - x * y + Ideal.log1p (Ideal.exp (-FloatOps.absf (F := Ideal) (φ := .f32) x))

/-- Words of two entries of a row are equal exactly when the entries are. -/
theorem word_eq {n : ℕ} (hn : n ≤ 2 ^ 31) (i k : Fin n) : IntOp.cmpi .eq (BitVec.ofNat 32 k.val) (BitVec.ofNat 32 i.val) = if k = i then 1#1 else 0#1 := by
  have hi := i.isLt
  have hk := k.isLt
  by_cases h : k = i
  · rw [if_pos h, h]; simp [IntOp.cmpi]
  · rw [if_neg h]
    have : BitVec.ofNat 32 k.val ≠ BitVec.ofNat 32 i.val := fun e => h (Fin.ext (by
      have e2 := congrArg BitVec.toNat e
      simp only [BitVec.toNat_ofNat] at e2
      rwa [Nat.mod_eq_of_lt (by omega), Nat.mod_eq_of_lt (by omega)] at e2))
    show BitVec.ofBool (_ == _) = 0#1
    rw [beq_eq_false_iff_ne.mpr this]; rfl

/-- Summing a row with every entry but the label's replaced by zero picks the label's entry. -/
theorem sum_pick {n : ℕ} (hn : n ≤ 2 ^ 31) (x : Fin n → EReal) (k : Fin n) {w : BitVec 32} (hw : w = BitVec.ofNat 32 k.val) :
    ∑ v : Fin n, Scalar.select (IntOp.cmpi .eq (BitVec.ofNat 32 v.val) w) (x v) 0 = x k := by
  subst hw
  rw [Finset.sum_eq_single k]
  · rw [word_eq hn, if_pos rfl]; rfl
  · intro v _ hv
    rw [word_eq hn, if_neg hv]; rfl
  · exact fun h => absurd (Finset.mem_univ _) h

end Cert.Losses

end
-- ==== Proof.Words.lean ====
/- UNTRUSTED — the float words that the two programs write, as the rationals that they are. -/
module

public import Idealize.ShloMosaic.Lib.Pointwise

@[expose] public section

noncomputable section

namespace Cert.Words

open Idealize.ShloMosaic

/-- The weight of the chord loss, the float next to 0.2. -/
abbrev chordWeight : ℝ := 13421773 / 67108864
/-- The weight of the scale loss, the float next to 0.1. -/
abbrev scaleWeight : ℝ := 13421773 / 134217728
/-- The weight of the repetition term, the float next to 0.05. -/
abbrev repWeight : ℝ := 13421773 / 268435456

/-- One over the number of tokens. -/
theorem over_tokens : Ideal.ofBits .f32 0x39000000#32 = ((1 / 8192 : ℝ) : EReal) := by
  simp [Ideal.ofBits, Ideal.ieee, -EReal.coe_mul]; norm_num
/-- The chord weight over the number of tokens. -/
theorem chord_over_tokens : Ideal.ofBits .f32 0x37CCCCCD#32 = ((chordWeight / 8192 : ℝ) : EReal) := by
  simp [Ideal.ofBits, Ideal.ieee, -EReal.coe_mul]; norm_num
/-- The word of the repetition weight. -/
theorem rep_weight : Ideal.ofBits .f32 0x3D4CCCCD#32 = ((repWeight : ℝ) : EReal) := by
  simp [Ideal.ofBits, Ideal.ieee, -EReal.coe_mul]; norm_num
/-- The word of the chord weight. -/
theorem chord_weight : Ideal.ofBits .f32 0x3E4CCCCD#32 = ((chordWeight : ℝ) : EReal) := by
  simp [Ideal.ofBits, Ideal.ieee, -EReal.coe_mul]; norm_num
/-- The word of the scale weight. -/
theorem scale_weight : Ideal.ofBits .f32 0x3DCCCCCD#32 = ((scaleWeight : ℝ) : EReal) := by
  simp [Ideal.ofBits, Ideal.ieee, -EReal.coe_mul]; norm_num
/-- The word of one half. -/
theorem half : Ideal.ofBits .f32 0x3F000000#32 = ((1 / 2 : ℝ) : EReal) := by
  simp [Ideal.ofBits, Ideal.ieee, -EReal.coe_mul]; norm_num
/-- The number of entries of the windowed counts. -/
theorem count_entries : Ideal.ofBits .f32 0x4B800000#32 = ((16777216 : ℝ) : EReal) := by
  simp [Ideal.ofBits, Ideal.ieee, -EReal.coe_mul]; norm_num
/-- The number of entries of the scale logits. -/
theorem scale_entries : Ideal.ofBits .f32 0x47C00000#32 = ((98304 : ℝ) : EReal) := by
  simp [Ideal.ofBits, Ideal.ieee, -EReal.coe_mul]; norm_num
/-- The word of −∞. -/
theorem minus_inf : Ideal.ofBits .f32 0xFF800000#32 = ⊥ := by
  simp [Ideal.ofBits, Ideal.ieee]
/-- The word of +∞. -/
theorem plus_inf : Ideal.ofBits .f32 0x7F800000#32 = ⊤ := by
  simp [Ideal.ofBits, Ideal.ieee]
/-- The word of zero. -/
theorem zero_word : Ideal.ofBits .f32 0x00000000#32 = 0 := by
  simp [Ideal.ofBits, Ideal.ieee]

end Cert.Words

end
-- ==== Proof.Step.lean ====
/- UNTRUSTED — what one step of the kernel adds to the accumulator: the block's row losses, summed and weighed, for labels that
   name entries of their rows. -/
module

public import proofs.«01_k».proof.Proof.Gen.KernelIdeal.Skeleton
public import proofs.«01_k».proof.Proof.Losses
public import proofs.«01_k».proof.Proof.Words
public import Idealize.ShloMosaic.Lib.Pointwise

@[expose] public section

set_option maxRecDepth 16384

noncomputable section

namespace Cert.KernelIdeal.Step

open Cert.KernelIdeal Cert.KernelIdeal.Gen Idealize.ShloMosaic Idealize.SL.Sem Cert.Losses

/-- The step's weight of the scale losses is the named constant: the scale weight over the number of scale entries. -/
theorem scale_over_entries : Named.named (F := Ideal) κ "scale_weight_over_nk" (φ := .f32) 0x35888889#32 = ((Words.scaleWeight / 98304 : ℝ) : EReal) := by
  show ((13421773 / 13194139533312 : ℝ) : EReal) = _
  norm_num

/-- The accumulator's first value is the named constant: the repetition term. -/
theorem rep_term : Named.named (F := Ideal) κ "rep_term" (φ := .f32) 0x38CC599A#32 = ((Words.repWeight * (1 / 2 * (65392 / 16777216)) : ℝ) : EReal) := by
  show ((54854786251 / 562949953421312 : ℝ) : EReal) = _
  norm_num

/-- The block's main losses, summed. -/
theorem main_sum (x : Vec Ideal S1x512x2048 .f32) (g : Vec Ideal S1x512x2 .i32) (k : Fin 512 → Fin 2048)
    (hk : ∀ r, g (ix3 0 r 0) = BitVec.ofNat 32 (k r).val) : k0_pay2 (F := Ideal) x g = ∑ r : Fin 512, rowLoss (fun v => x (ix3 0 r v)) (k r) := by
  have e : k0_pay2 (F := Ideal) x g = ∑ r : Fin 512, ∑ _u : Fin 1, (Ideal.log (∑ v, Ideal.exp (x (ix3 0 r v)))
      - ∑ v : Fin 2048, Scalar.select (IntOp.cmpi .eq (BitVec.ofNat 32 v.val) (g (ix3 0 r 0))) (x (ix3 0 r v)) 0) := by
    pointwise [k0_pay2]
  rw [e]
  refine Finset.sum_congr rfl fun r _ => ?_
  rw [Fin.sum_univ_one, sum_pick (by norm_num) (fun v => x (ix3 0 r v)) (k r) (hk r)]
  rfl

/-- The block's chord losses, row by row. -/
theorem chord_row (x : Vec Ideal S1x512x60 .f32) (g : Vec Ideal S1x512x2 .i32) (r : Fin 512) (k : Fin 60)
    (hk : g (ix3 0 r 1) = BitVec.ofNat 32 k.val) : k0_pay3 (F := Ideal) x g (ix3 0 r 0) = rowLoss (fun v => x (ix3 0 r v)) k := by
  have e : k0_pay3 (F := Ideal) x g (ix3 0 r 0) = Ideal.log (∑ v, Ideal.exp (x (ix3 0 r v)))
      - ∑ v : Fin 60, Scalar.select (IntOp.cmpi .eq (BitVec.ofNat 32 v.val) (g (ix3 0 r 1))) (x (ix3 0 r v)) 0 := by
    pointwise [k0_pay3]
  rw [e, sum_pick (by norm_num) (fun v => x (ix3 0 r v)) k hk]
  rfl

/-- The step adds the weighed sums to the accumulator. -/
theorem step_sum (a : EReal) (w : FVec Ideal S1x512x1 .f32) (x y : Vec Ideal S1x512x12 .f32) (acc : EReal) :
    k0_pay1 (F := Ideal) a w x y acc = acc + (a * ((1 / 8192 : ℝ) : EReal) + (∑ r : Fin 512, w (ix3 0 r 0)) * ((Words.chordWeight / 8192 : ℝ) : EReal)
      + (∑ r : Fin 512, ∑ k : Fin 12, entryLoss (x (ix3 0 r k)) (y (ix3 0 r k))) * ((Words.scaleWeight / 98304 : ℝ) : EReal)) := by
  have e : k0_pay1 (F := Ideal) a w x y acc = acc + (a * Ideal.ofBits .f32 0x39000000#32
      + (∑ r : Fin 512, ∑ u : Fin 1, w (ix3 0 r u)) * Ideal.ofBits .f32 0x37CCCCCD#32
      + (∑ r : Fin 512, ∑ k : Fin 12, (max (x (ix3 0 r k)) 0 - x (ix3 0 r k) * y (ix3 0 r k)
        + Ideal.log1p (Ideal.exp (0 - FloatOps.absf (F := Ideal) (φ := .f32) (x (ix3 0 r k))))))
        * Named.named (F := Ideal) κ "scale_weight_over_nk" (φ := .f32) 0x35888889#32) := by
    pointwise [k0_pay1]
  rw [e, Words.over_tokens, Words.chord_over_tokens, scale_over_entries]
  simp only [Fin.sum_univ_one, zero_sub]
  rfl

end Cert.KernelIdeal.Step

end
-- ==== Proof.Value.lean ====
/- UNTRUSTED — what the kernel's accumulator holds after its last step: the repetition term, and what each of the 16 steps adds. -/
module

public import proofs.«01_k».proof.Proof.Blocks
public import proofs.«01_k».proof.Proof.Step

@[expose] public section

set_option maxRecDepth 16384

noncomputable section

namespace Cert.KernelIdeal.Value

open Cert.KernelIdeal Cert.KernelIdeal.Gen Idealize.ShloMosaic Idealize.ShloMosaic.TcCoe Idealize.SL.Sem Cert.Losses Cert.KernelIdeal.Blocks

variable (m : (ℓ : Loc nD τ sig) → Buf (Elt Ideal) ℓ) (c : Dev nD)
variable (k : Fin 4 → Fin 2048 → Fin 2048) (l : Fin 4 → Fin 2048 → Fin 60)

/-- The main losses of step `t`'s tokens. -/
def mainOf (t : Fin cfg0.N) : EReal :=
  ∑ r : Fin 512, rowLoss (fun v : Fin 2048 => m ((c.tc : Thread nD τ).loc main_arg0) (ix3 (batch t) (token t r) v)) (k (batch t) (token t r))

/-- The chord losses of step `t`'s tokens. -/
def chordOf (t : Fin cfg0.N) : EReal :=
  ∑ r : Fin 512, rowLoss (fun v : Fin 60 => m ((c.tc : Thread nD τ).loc main_arg1) (ix3 (batch t) (token t r) v)) (l (batch t) (token t r))

/-- The scale losses of step `t`'s tokens. -/
def scaleOf (t : Fin cfg0.N) : EReal :=
  ∑ r : Fin 512, ∑ v : Fin 12, entryLoss (m ((c.tc : Thread nD τ).loc main_arg2) (ix3 (batch t) (token t r) v))
    (m ((c.tc : Thread nD τ).loc main_arg3) (ix3 (batch t) (token t r) v))

/-- What step `t` adds to the accumulator. -/
def added (t : Fin cfg0.N) : EReal :=
  mainOf m c k t * ((1 / 8192 : ℝ) : EReal) + chordOf m c l t * ((Words.chordWeight / 8192 : ℝ) : EReal)
    + scaleOf m c t * ((Words.scaleWeight / 98304 : ℝ) : EReal)

/-- A step's stored value, for labels that name entries of their rows. -/
theorem step (hk : ∀ a s, m ((c.tc : Thread nD τ).loc main_arg4) (ix2 a s) = BitVec.ofNat 32 (k a s).val)
    (hl : ∀ a s, m ((c.tc : Thread nD τ).loc main_arg6) (ix2 a s) = BitVec.ofNat 32 (l a s).val) (t : Fin cfg0.N) (acc : EReal) :
    k0_pay1 (F := Ideal) (k0_pay2 (F := Ideal) (iblk m c 0 t) (iblk m c 1 t)) (k0_pay3 (F := Ideal) (iblk m c 2 t) (iblk m c 1 t))
      (iblk m c 3 t) (iblk m c 4 t) acc = acc + added m c k l t := by
  rw [Step.step_sum, Step.main_sum _ _ (fun r => k (batch t) (token t r)) fun r => (main_labels m c t r).trans (hk _ _)]
  have e : ∀ r : Fin 512, k0_pay3 (F := Ideal) (iblk m c 2 t) (iblk m c 1 t) (ix3 0 r 0) = _ :=
    fun r => Step.chord_row _ _ r (l (batch t) (token t r)) ((chord_labels m c t r).trans (hl _ _))
  simp only [e, main_logits, chord_logits, scale_logits, scale_targets]
  rfl

/-- The accumulator has one entry. -/
theorem one_entry (v : Vec Ideal S1x1 .f32) (i j : S1x1.Idx) : v i = v j := by
  blk_ext

/-- The accumulator's array when the kernel ends. -/
theorem final (hk : ∀ a s, m ((c.tc : Thread nD τ).loc main_arg4) (ix2 a s) = BitVec.ofNat 32 (k a s).val)
    (hl : ∀ a s, m ((c.tc : Thread nD τ).loc main_arg6) (ix2 a s) = BitVec.ofNat 32 (l a s).val) :
    (dats m 0 c).arrAt 5 (cfgs 0).N = fun _ => ((Words.repWeight * (1 / 2 * (65392 / 16777216)) : ℝ) : EReal) + ∑ t : Fin cfg0.N, added m c k l t := by
  refine (dats m 0 c).arrAt_eq_of_after_last 5 t0_15 (by decide +kernel) _ fun j => ?_
  blk_simp
  rw [after0_5, Pipeline.eq_sum_fin_of_reset_step_apply_last (fun n h => outsAt0 m c n h) 16 (fun _ => ((Words.repWeight * (1 / 2 * (65392 / 16777216)) : ℝ) : EReal))
    (fun t _ => added m c k l t)
    (fun t h j => by rw [outsAt0_A m c t h]; frame_out; exact (step m c k l hk hl t _).trans (by rw [Step.rep_term]))
    (fun t h j => by rw [outsAt0_B m c t h]; frame_out; exact (step m c k l hk hl t _).trans (by rw [View.ld_apply]; exact congrArg (· + added m c k l t) (one_entry (outsAt0 m c (t.val - 1) _) _ j)))
    (le_of_eq N_0) t0_15 rfl j]

end Cert.KernelIdeal.Value

end
-- ==== Proof.Stages.lean ====
/- UNTRUSTED — the reference's result, cut into named stages, each a function of the arrays it reads: the log-probabilities
   of a row, the labels' losses, their mean over the labels that count, the windowed label counts, and the binary cross
   entropy. `result_eq` says that the reference's result is these stages put together. -/
module

public import proofs.«01_k».proof.Proof.Gen.ReferenceIdeal.Run

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Each row's largest logit, a vocabulary of 2048. -/
def topMain (X : FVec F S4x2048x2048 .f32) : FVec F S4x2048 .f32 :=
  maximumf (broadcastInDim S4x2048 ![] bcast_S_S4x2048 (constant S_ .f32 0xFF800000#32))
    (Host.reduce FloatOps.maximumf X (constant S_ .f32 0xFF800000#32) reducesTo_S4x2048x2048_S4x2048_d2 h_S_)

/-- The logits less their row's largest. -/
def shiftMain (X : FVec F S4x2048x2048 .f32) : FVec F S4x2048x2048 .f32 :=
  subf X (broadcastInDim S4x2048x2048 ![0, 1, 2] bcast_S4x2048x1_S4x2048x2048_0_1_2
    (broadcastInDim S4x2048x1 ![0, 1] bcast_S4x2048_S4x2048x1_0_1 (topMain X)))

/-- The log-probabilities of the main logits. -/
def logpMain (X : FVec F S4x2048x2048 .f32) : FVec F S4x2048x2048 .f32 :=
  subf (shiftMain X) (broadcastInDim S4x2048x2048 ![0, 1, 2] bcast_S4x2048x1_S4x2048x2048_0_1_2
    (Host.log (broadcastInDim S4x2048x1 ![0, 1] bcast_S4x2048_S4x2048x1_0_1
      (Host.reduceAdd (Host.exp (shiftMain X)) (constant S_ .f32 0x00000000#32) reducesTo_S4x2048x2048_S4x2048_d2 h_S_))))

/-- Each row's largest logit, a vocabulary of 60. -/
def topChord (X : FVec F S4x2048x60 .f32) : FVec F S4x2048 .f32 :=
  maximumf (broadcastInDim S4x2048 ![] bcast_S_S4x2048 (constant S_ .f32 0xFF800000#32))
    (Host.reduce FloatOps.maximumf X (constant S_ .f32 0xFF800000#32) reducesTo_S4x2048x60_S4x2048_d2 h_S_)

/-- The chord logits less their row's largest. -/
def shiftChord (X : FVec F S4x2048x60 .f32) : FVec F S4x2048x60 .f32 :=
  subf X (broadcastInDim S4x2048x60 ![0, 1, 2] bcast_S4x2048x1_S4x2048x60_0_1_2
    (broadcastInDim S4x2048x1 ![0, 1] bcast_S4x2048_S4x2048x1_0_1 (topChord X)))

/-- The log-probabilities of the chord logits. -/
def logpChord (X : FVec F S4x2048x60 .f32) : FVec F S4x2048x60 .f32 :=
  subf (shiftChord X) (broadcastInDim S4x2048x60 ![0, 1, 2] bcast_S4x2048x1_S4x2048x60_0_1_2
    (Host.log (broadcastInDim S4x2048x1 ![0, 1] bcast_S4x2048_S4x2048x1_0_1
      (Host.reduceAdd (Host.exp (shiftChord X)) (constant S_ .f32 0x00000000#32) reducesTo_S4x2048x60_S4x2048_d2 h_S_))))

/-- Which labels count: those other than the ignored one. -/
def counts (ign : BitVec 32) (T : IVec S4x2048 32) : IVec S4x2048 1 :=
  cmpi .ne T (broadcastInDim S4x2048 ![] bcast_S_S4x2048 (constantI S_ 32 ign))

/-- The labels, the ignored one replaced by zero, as a column per row. -/
def safe (ign : BitVec 32) (T : IVec S4x2048 32) : IVec S4x2048x1 32 :=
  broadcastInDim S4x2048x1 ![0, 1] bcast_S4x2048_S4x2048x1_0_1
    (select (counts ign T) T (broadcastInDim S4x2048 ![] bcast_S_S4x2048 (id (constantI S_ 32 0#32))))

/-- The entry each label names: a negative label counts from the row's end, `n` entries long. -/
def entry (ign n : BitVec 32) (T : IVec S4x2048 32) : IVec S4x2048x1x1 32 :=
  shapeCast _ (select (cmpi .slt (safe ign T) (broadcastInDim S4x2048x1 ![] bcast_S_S4x2048x1 (constantI S_ 32 0#32)))
    (addi (safe ign T) (broadcastInDim S4x2048x1 ![] bcast_S_S4x2048x1 (constantI S_ 32 n))) (safe ign T)) shapeCasts_S4x2048x1_S4x2048x1x1

/-- Which entries lie in the row, whose last entry is `last`. -/
def inRow (ign n last : BitVec 32) (T : IVec S4x2048 32) : IVec S4x2048x1 1 :=
  Host.reduce IntOp.andi (andi (cmpi .sge (entry ign n T) (broadcastInDim S4x2048x1x1 ![] bcast_S_S4x2048x1x1 (constantI S_ 32 0#32)))
    (cmpi .sle (entry ign n T) (broadcastInDim S4x2048x1x1 ![0, 1, 2, 3] bcast_S1x1x1x1_S4x2048x1x1_0_1_2_3
      (broadcastInDim S1x1x1x1 ![3] bcast_S1_S1x1x1x1_3 (constantI S1 32 last)))))
    (constantI S_ 1 1#1) reducesTo_S4x2048x1x1_S4x2048x1_d3 h_S_

/-- Minus the picked log-probabilities, where the entry lies in its row. -/
def losses (ok : IVec S4x2048x1 1) (picked : FVec F S4x2048x1 .f32) : FVec F S4x2048 .f32 :=
  Host.negf (shapeCast _ (select ok picked (broadcastInDim S4x2048x1 ![] bcast_S_S4x2048x1 (constant S_ .f32 0x7FC00000#32)))
    shapeCasts_S4x2048x1_S4x2048)

/-- The main logits' losses at the labels. -/
def lossMain (X : FVec F S4x2048x2048 .f32) (T : IVec S4x2048 32) : FVec F S4x2048 .f32 :=
  losses (inRow 4294967196#32 2048#32 2047#32 T)
    (Host.gather gather_S4x2048x2048_S4x2048x1x1_S4x2048x1_n_2_01_01_2_3_111 (logpMain X) (entry 4294967196#32 2048#32 T))

/-- The chord logits' losses at the labels. -/
def lossChord (X : FVec F S4x2048x60 .f32) (T : IVec S4x2048 32) : FVec F S4x2048 .f32 :=
  losses (inRow 3294967296#32 60#32 59#32 T)
    (Host.gather gather_S4x2048x60_S4x2048x1x1_S4x2048x1_n_2_01_01_2_3_111 (logpChord X) (entry 3294967296#32 60#32 T))

/-- The mean of the losses over the labels that count. -/
def meanOver (L : FVec F S4x2048 .f32) (V : IVec S4x2048 1) : FVec F S_ .f32 :=
  Host.divf (Host.reduceAdd (mulf L (uitofp .f32 V)) (constant S_ .f32 0x00000000#32) reducesTo_S4x2048_S_d0_1 h_S_)
    (sitofp .f32 (maxsi (Host.reduce IntOp.addi (extui 32 V natLt_1_32) (constantI S_ 32 0#32) reducesTo_S4x2048_S_d0_1 h_S_)
      (constantI S_ 32 1#32)))

/-- The labels moved one position later, a zero first. -/
def moved (T : IVec S4x2048 32) : IVec S4x2048 32 :=
  concatenate S4x2048 1 [⟨S4x1, (broadcastInDim S4x1 ![] bcast_S_S4x1 (constantI S_ 32 0#32))⟩,
    ⟨S4x2047, (extractStridedSlice S4x2047 ![0, 0] T slices_S4x2048_S4x2047_0_0)⟩] concatenates_S4x1_S4x2047_S4x2048_d1

/-- One where the moved label is the vocabulary entry, zero elsewhere. -/
def hot (T : IVec S4x2048 32) : FVec F S4x2048x2048 .f32 :=
  uitofp .f32 (cmpi .eq (broadcastInDim S4x2048x2048 ![0, 1, 2] bcast_S4x2048x1_S4x2048x2048_0_1_2
      (broadcastInDim S4x2048x1 ![0, 1] bcast_S4x2048_S4x2048x1_0_1 (moved T)))
    (broadcastInDim S4x2048x2048 ![0, 1, 2] bcast_S1x1x2048_S4x2048x2048_0_1_2 (iotaInDim S1x1x2048 32 2)))

/-- The running sum along the positions. -/
def running (H : FVec F S4x2048x2048 .f32) : FVec F S4x2048x2048 .f32 :=
  Host.reduceWindowAdd ![1, 2048, 1] ![1, 1, 1] ![0, 2047, 0] ![0, 0, 0] H (broadcastInDim S_ ![] bcast_S_S_ (constant S_ .f32 0x00000000#32))
    reduceWindows_S4x2048x2048_S4x2048x2048_w1s1p0_0_w2048s1p2047_0_w1s1p0_0 h_S_

/-- The running sum up to the position before, less the running sum up to nine positions before. -/
def window (C : FVec F S4x2048x2048 .f32) : FVec F S4x2048x2048 .f32 :=
  subf (extractStridedSlice S4x2048x2048 ![0, 0, 0] (pad S4x2049x2048 ![0, 1, 0] ![0, 0, 0] ![0, 0, 0] C
      (sitofp .f32 (constantI S_ 32 0#32)) pads_S4x2048x2048_S4x2049x2048_000_100_000 h_S_) slices_S4x2049x2048_S4x2048x2048_0_0_0)
    (extractStridedSlice S4x2048x2048 ![0, 0, 0] (pad S4x2057x2048 ![0, 9, 0] ![0, 0, 0] ![0, 0, 0] C
      (sitofp .f32 (constantI S_ 32 0#32)) pads_S4x2048x2048_S4x2057x2048_000_900_000 h_S_) slices_S4x2057x2048_S4x2048x2048_0_0_0)

/-- The repetition term: half the mean of the windowed counts. -/
def repetition (T : IVec S4x2048 32) : FVec F S_ .f32 :=
  mulf (constant S_ .f32 0x3F000000#32)
    (Host.divf (Host.reduceAdd (window (running (hot T))) (constant S_ .f32 0x00000000#32) reducesTo_S4x2048x2048_S_d0_1_2 h_S_)
      (constant S_ .f32 0x4B800000#32))

/-- The mean binary cross entropy of the logits `X` against the targets `Y`. -/
def entropy (X Y : FVec F S4x2048x12 .f32) : FVec F S_ .f32 :=
  Host.divf (Host.reduceAdd (addf (subf (maximumf X (broadcastInDim S4x2048x12 ![] bcast_S_S4x2048x12 (constant S_ .f32 0x00000000#32))) (mulf X Y))
      (Host.log1p (Host.exp (Host.negf (Host.absf X))))) (constant S_ .f32 0x00000000#32) reducesTo_S4x2048x12_S_d0_1_2 h_S_)
    (constant S_ .f32 0x47C00000#32)

/-- The weighted total of the four terms. -/
def total (X : FVec F S4x2048x2048 .f32) (C : FVec F S4x2048x60 .f32) (S Y : FVec F S4x2048x12 .f32) (T U : IVec S4x2048 32) : FVec F S_ .f32 :=
  addf (addf (addf (meanOver (lossMain X T) (counts 4294967196#32 T)) (mulf (constant S_ .f32 0x3D4CCCCD#32) (repetition T)))
      (mulf (constant S_ .f32 0x3E4CCCCD#32) (meanOver (lossChord C U) (counts 3294967296#32 U))))
    (mulf (constant S_ .f32 0x3DCCCCCD#32) (entropy S Y))

/-- The reference's result is the weighted total of the stages over its arguments. -/
theorem result_eq (m : (ℓ : Loc nD τ sig) → Buf (Elt F) ℓ) (c : Dev nD) :
    Cert.ReferenceIdeal.Value.res_out0 m c
      = total (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg6)) := rfl

end Cert.ReferenceIdeal.Stages

end
-- ==== Proof.RowLaw.lean ====
/- UNTRUSTED — one row of logits: the logarithm of a sum of exponentials is the same whether a real number is taken off
   every entry first or not. The kernel exponentiates the logits as they stand; the reference first takes off the row's
   largest. Over the extended reals the two losses agree when no entry is `+∞` and some entry is above `-∞`. -/
module

public import Idealize.ShloMosaic.PureOps.Ideal

@[expose] public section

noncomputable section

namespace Cert.RowLaw

open Idealize.ShloMosaic

/-- What a row must satisfy: every entry is below `+∞`, and some entry is above `-∞`. -/
structure Proper {n : ℕ} (x : Fin n → EReal) : Prop where
  /-- no entry is `+∞` -/
  lt_top : ∀ i, x i < ⊤
  /-- some entry is not `-∞` -/
  some_gt : ∃ i, ⊥ < x i

/-- The exponential of an entry below `+∞`, as a real number: zero at `-∞`. -/
def weight (v : EReal) : ℝ := if v = ⊥ then 0 else Real.exp v.toReal

/-- Weights are nonnegative. -/
theorem weight_nonneg (v : EReal) : 0 ≤ weight v := by
  unfold weight; split
  · exact le_rfl
  · exact (Real.exp_pos _).le

/-- A weight is positive where the entry is above −∞. -/
theorem weight_pos {v : EReal} (h : ⊥ < v) : 0 < weight v := by
  unfold weight; rw [if_neg h.ne']; exact Real.exp_pos _

/-- The exponential of an entry below `+∞` is its weight. -/
theorem exp_eq_weight {v : EReal} (h : v < ⊤) : Ideal.exp v = ((weight v : ℝ) : EReal) := by
  induction v with
  | bot => rw [weight, if_pos rfl]; rfl
  | coe r => rw [weight, if_neg (EReal.coe_ne_bot r), EReal.toReal_coe]; rfl
  | top => exact absurd h (lt_irrefl _)

/-- Taking a real off an entry multiplies its exponential by a positive real. -/
theorem exp_sub_eq {v : EReal} (h : v < ⊤) (μ : ℝ) :
    Ideal.exp (v - (μ : EReal)) = ((weight v * Real.exp (-μ) : ℝ) : EReal) := by
  induction v with
  | bot => rw [weight, if_pos rfl, zero_mul, EReal.bot_sub]; rfl
  | coe r =>
    rw [← EReal.coe_sub, weight, if_neg (EReal.coe_ne_bot r), EReal.toReal_coe, ← Real.exp_add, ← sub_eq_add_neg]; rfl
  | top => exact absurd h (lt_irrefl _)

/-- A finite sum of reals, seen as extended reals. -/
theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- The weights of a proper row have a positive sum. -/
theorem sum_weight_pos {n : ℕ} {x : Fin n → EReal} (hx : Proper x) : 0 < ∑ i, weight (x i) := by
  obtain ⟨i, hi⟩ := hx.some_gt
  exact Finset.sum_pos' (fun i _ => weight_nonneg _) ⟨i, Finset.mem_univ _, weight_pos hi⟩

/-- The logarithm of a positive real number is the real logarithm. -/
theorem log_coe_pos {r : ℝ} (h : 0 < r) : Ideal.log ((r : ℝ) : EReal) = ((Real.log r : ℝ) : EReal) := by
  show (if r ≤ 0 then ⊥ else ((Real.log r : ℝ) : EReal)) = _
  rw [if_neg (not_le.mpr h)]

/-- THE ROW LAW: for any real shift, minus the shifted log-probability of entry `t` is the unshifted logarithm of the sum
    of exponentials less entry `t` itself (an entry `t` at `-∞` gives `+∞` on both sides). -/
theorem shifted {n : ℕ} {x : Fin n → EReal} (hx : Proper x) (t : Fin n) (μ : ℝ) :
    -(x t - (μ : EReal) - Ideal.log (∑ i, Ideal.exp (x i - (μ : EReal)))) = Ideal.log (∑ i, Ideal.exp (x i)) - x t := by
  have hS := sum_weight_pos hx
  have e1 : ∑ i, Ideal.exp (x i) = ((∑ i, weight (x i) : ℝ) : EReal) := by
    rw [← coe_sum]; exact Finset.sum_congr rfl fun i _ => exp_eq_weight (hx.lt_top i)
  have e2 : ∑ i, Ideal.exp (x i - (μ : EReal)) = (((∑ i, weight (x i)) * Real.exp (-μ) : ℝ) : EReal) := by
    rw [Finset.sum_mul, ← coe_sum]; exact Finset.sum_congr rfl fun i _ => exp_sub_eq (hx.lt_top i) μ
  rw [e1, e2, log_coe_pos hS, log_coe_pos (mul_pos hS (Real.exp_pos _)),
    Real.log_mul hS.ne' (Real.exp_pos _).ne', Real.log_exp]
  have ht := hx.lt_top t
  generalize x t = v at ht
  induction v with
  | bot => simp [EReal.bot_sub]
  | coe r =>
    norm_cast
    ring
  | top => exact absurd ht (lt_irrefl _)

/-- The largest entry of a proper row, as a running maximum from `-∞`, is a real number. -/
theorem fold_max_real {n : ℕ} {x : Fin n → EReal} (hx : Proper x) :
    ∃ μ : ℝ, (Finset.univ.fold max ⊥ fun i => x i) = (μ : EReal) := by
  obtain ⟨i, hi⟩ := hx.some_gt
  have hb : (⊥ : EReal) < Finset.univ.fold max ⊥ fun i => x i :=
    (Finset.lt_fold_max _).mpr (.inr ⟨i, Finset.mem_univ _, hi⟩)
  have ht : (Finset.univ.fold max ⊥ fun i => x i) < (⊤ : EReal) :=
    (Finset.fold_max_lt _).mpr ⟨bot_lt_top, fun i _ => hx.lt_top i⟩
  exact ⟨_, (EReal.coe_toReal ht.ne hb.ne').symm⟩

end Cert.RowLaw

end
-- ==== Proof.LastAxis.lean ====
/- UNTRUSTED — a reduction over the last axis of a rank-three array, read at an index. Nothing here depends on a program. -/
module

public import Idealize.ShloMosaic.Lib.Pointwise

@[expose] public section

noncomputable section

namespace Cert.LastAxis

open Idealize.ShloMosaic Idealize.SL.Sem

/-- The reduction at `(a, s)` folds the row `(a, s)`. -/
theorem reduce {α : Type} {A B N : ℕ} {u : Shape} (op : α → α → α) [Std.Commutative op] [Std.Associative op]
    (x : (⟨3, ![A, B, N]⟩ : Shape).Idx → α) (init : u.Idx → α) (h : (⟨3, ![A, B, N]⟩ : Shape).ReducesTo [2] ⟨2, ![A, B]⟩) (hu : 0 < u.numel)
    (a : Fin A) (s : Fin B) :
    Host.reduce op x init h hu (ix2 a s) = Finset.univ.fold op (init (Shape.Idx.first hu)) fun v : Fin N => x (ix3 a s v) := by
  rw [Host.reduce_eq_fold, Shape.ReducesTo.fold_fiber_r3_a2]
  rfl

/-- The elementwise maximum of two arrays, at an index. -/
theorem max_at {s : Shape} (x y : FVec Ideal s .f32) (i : s.Idx) (c : EReal) (hx : x i = c) : maximumf x y i = max c (y i) := by
  subst hx; rfl

end Cert.LastAxis

end
-- ==== Proof.Pick.lean ====
/- UNTRUSTED — reading one entry per row: a gather whose two leading axes are batch axes and whose last axis is indexed by one
   word a row. Nothing here depends on a program. -/
module

public import Idealize.ShloMosaic.Lib.Pointwise
public import Idealize.ShloMosaic.Lib.Routing.Ops

@[expose] public section

noncomputable section

namespace Cert.Pick

open Idealize.ShloMosaic Idealize.SL.Sem

/-- Where the row `(a, b)` holds the word of `k`, `k` an entry of the row, the gather reads the row's entry `k`. -/
theorem pick {α : Type} {A B n : Nat} (d : GatherDims ⟨3, ![A, B, n]⟩ ⟨4, ![A, B, 1, 1]⟩ ⟨3, ![A, B, 1]⟩)
    (hoff : d.offsetDims = []) (hcoll : d.collapsedSliceDims = [2]) (hob : d.operandBatchingDims = [0, 1])
    (hsb : d.startIndicesBatchingDims = [0, 1]) (hsim : d.startIndexMap = [2]) (hivd : d.indexVectorDim = 3)
    (x : (⟨3, ![A, B, n]⟩ : Shape).Idx → α) (idx : IVec ⟨4, ![A, B, 1, 1]⟩ 32) (a : Fin A) (b : Fin B) (k : Fin n)
    (hk : idx (ix4 a b 0 0) = BitVec.ofNat 32 k.val) (hn : n < 2 ^ 31) :
    Host.gather d x idx (ix3 a b 0) = x (ix3 a b k) := by
  have hsl : d.sliceSizes 2 = 1 := d.slice_collapsed 2 (by rw [hcoll]; exact List.mem_singleton.2 rfl)
  obtain ⟨off, coll, ob, sb, sim, ivd, ss, wf⟩ := d
  dsimp only at hoff hcoll hob hsb hsim hivd hsl
  subst hoff hcoll hob hsb hsim hivd
  unfold Host.gather
  refine congrArg x (funext fun c => Fin.ext ?_)
  match c with
  | ⟨0, _⟩ =>
    show GatherDims.start _ _ idx 0 + GatherDims.batchCoord _ _ 0 + GatherDims.offCoord _ _ 0 = a.val
    rw [show GatherDims.start ⟨[], [2], [0, 1], [0, 1], [2], 3, ss, wf⟩ (ix3 a b 0) idx 0 = 0 from dif_neg (show (0 : Fin 3) ∉ ([2] : List (Fin 3)) by decide),
      GatherDims.offCoord_eq_zero _ _ 0 fun h => ((GatherDims.mem_sKept _ _).1 h).2 (show (0 : Fin 3) ∈ ([0, 1] : List (Fin 3)) by decide)]
    rw [Nat.zero_add, Nat.add_zero]
    rfl
  | ⟨1, _⟩ =>
    show GatherDims.start _ _ idx 1 + GatherDims.batchCoord _ _ 1 + GatherDims.offCoord _ _ 1 = b.val
    rw [show GatherDims.start ⟨[], [2], [0, 1], [0, 1], [2], 3, ss, wf⟩ (ix3 a b 0) idx 1 = 0 from dif_neg (show (1 : Fin 3) ∉ ([2] : List (Fin 3)) by decide),
      GatherDims.offCoord_eq_zero _ _ 1 fun h => ((GatherDims.mem_sKept _ _).1 h).2 (show (1 : Fin 3) ∈ ([0, 1] : List (Fin 3)) by decide)]
    rw [Nat.zero_add, Nat.add_zero]
    rfl
  | ⟨2, _⟩ =>
    show GatherDims.start _ _ idx 2 + GatherDims.batchCoord _ _ 2 + GatherDims.offCoord _ _ 2 = k.val
    rw [GatherDims.batchCoord_eq_zero _ _ 2 (show (2 : Fin 3) ∉ ([0, 1] : List (Fin 3)) by decide),
      GatherDims.offCoord_eq_zero _ _ 2 fun h => ((GatherDims.mem_sKept _ _).1 h).1 (show (2 : Fin 3) ∈ ([2] : List (Fin 3)) by decide)]
    unfold GatherDims.start
    rw [dif_pos (show (2 : Fin 3) ∈ ([2] : List (Fin 3)) by decide)]
    have hidx : ∀ q, GatherDims.siIdx ⟨[], [2], [0, 1], [0, 1], [2], 3, ss, wf⟩ (ix3 a b 0) q = ix4 a b 0 0 := by
      intro q
      funext c
      match c with
      | ⟨0, _⟩ => rfl
      | ⟨1, _⟩ => rfl
      | ⟨2, _⟩ => exact Subsingleton.elim (α := Fin 1) _ _
      | ⟨3, _⟩ => exact Subsingleton.elim (α := Fin 1) _ _
    have hkl := k.isLt
    rw [hidx, hk, StableHlo.Predicate.toInt_ofNat_small _ (by omega)]
    show min ((k.val : Int)).toNat (n - ss 2) + 0 + 0 = k.val
    rw [hsl]
    omega

end Cert.Pick

end
-- ==== Proof.RefRows.lean ====
/- UNTRUSTED — the reference's losses at one position: minus the log-probability of the label, which is the logarithm of the sum
   of the row's exponentials less the label's logit. Stated for a label that names an entry of a proper row. -/
module

public import proofs.«01_k».proof.Proof.Stages
public import proofs.«01_k».proof.Proof.RowLaw
public import proofs.«01_k».proof.Proof.LastAxis
public import proofs.«01_k».proof.Proof.Losses
public import proofs.«01_k».proof.Proof.Pick
public import proofs.«01_k».proof.Proof.Words
public import Idealize.ShloMosaic.Lib.Pointwise
public import Idealize.ShloMosaic.Lib.WordCmp

@[expose] public section

set_option maxRecDepth 16384

noncomputable section

namespace Cert.ReferenceIdeal.Rows

open Cert.ReferenceIdeal Cert.ReferenceIdeal.Gen Cert.ReferenceIdeal.Stages Idealize.ShloMosaic Idealize.ShloMosaic.TcCoe Idealize.SL.Sem
open Cert.Losses

/-- A token's largest main logit, taken from −∞ up. -/
theorem topMain_at (X : FVec Ideal S4x2048x2048 .f32) (a : Fin 4) (s : Fin 2048) :
    topMain X (ix2 a s) = max (Ideal.ofBits .f32 0xFF800000#32) (Finset.univ.fold max (Ideal.ofBits .f32 0xFF800000#32) fun v => X (ix3 a s v)) := by
  have hr : Host.reduce (FloatOps.maximumf (F := Ideal) (φ := .f32)) X (constant (F := Ideal) S_ .f32 0xFF800000#32)
      reducesTo_S4x2048x2048_S4x2048_d2 h_S_ (ix2 a s) = Finset.univ.fold max (Ideal.ofBits .f32 0xFF800000#32) fun v => X (ix3 a s v) :=
    LastAxis.reduce (max : EReal → EReal → EReal) X (constant (F := Ideal) S_ .f32 0xFF800000#32) _ h_S_ a s
  unfold topMain
  rw [LastAxis.max_at _ _ _ (Ideal.ofBits .f32 0xFF800000#32) rfl, hr]

/-- A main logit less the largest of its token. -/
theorem shiftMain_at (X : FVec Ideal S4x2048x2048 .f32) (a : Fin 4) (s v : Fin 2048) :
    shiftMain X (ix3 a s v) = X (ix3 a s v) - topMain X (ix2 a s) := by
  pointwise [shiftMain]

/-- A main log-probability: the shifted logit less the logarithm of the summed exponentials of the shifted row. -/
theorem logpMain_at (X : FVec Ideal S4x2048x2048 .f32) (a : Fin 4) (s v : Fin 2048) :
    logpMain X (ix3 a s v) = shiftMain X (ix3 a s v) - Ideal.log (∑ v', Ideal.exp (shiftMain X (ix3 a s v'))) := by
  pointwise [logpMain]

/-- A token's largest chord logit, taken from −∞ up. -/
theorem topChord_at (X : FVec Ideal S4x2048x60 .f32) (a : Fin 4) (s : Fin 2048) :
    topChord X (ix2 a s) = max (Ideal.ofBits .f32 0xFF800000#32) (Finset.univ.fold max (Ideal.ofBits .f32 0xFF800000#32) fun v => X (ix3 a s v)) := by
  have hr : Host.reduce (FloatOps.maximumf (F := Ideal) (φ := .f32)) X (constant (F := Ideal) S_ .f32 0xFF800000#32)
      reducesTo_S4x2048x60_S4x2048_d2 h_S_ (ix2 a s) = Finset.univ.fold max (Ideal.ofBits .f32 0xFF800000#32) fun v => X (ix3 a s v) :=
    LastAxis.reduce (max : EReal → EReal → EReal) X (constant (F := Ideal) S_ .f32 0xFF800000#32) _ h_S_ a s
  unfold topChord
  rw [LastAxis.max_at _ _ _ (Ideal.ofBits .f32 0xFF800000#32) rfl, hr]

/-- A chord logit less the largest of its token. -/
theorem shiftChord_at (X : FVec Ideal S4x2048x60 .f32) (a : Fin 4) (s : Fin 2048) (v : Fin 60) :
    shiftChord X (ix3 a s v) = X (ix3 a s v) - topChord X (ix2 a s) := by
  pointwise [shiftChord]

/-- A chord log-probability: the shifted logit less the logarithm of the summed exponentials of the shifted row. -/
theorem logpChord_at (X : FVec Ideal S4x2048x60 .f32) (a : Fin 4) (s : Fin 2048) (v : Fin 60) :
    logpChord X (ix3 a s v) = shiftChord X (ix3 a s v) - Ideal.log (∑ v', Ideal.exp (shiftChord X (ix3 a s v'))) := by
  pointwise [logpChord]

/-- A row's largest entry, taken over `-∞` twice, is a real for a proper row; minus the log-probability is then the row's loss. -/
theorem neg_logp {n : ℕ} {x : Fin n → EReal} (hx : RowLaw.Proper x) (k : Fin n) {top : EReal}
    (htop : top = max (Ideal.ofBits .f32 0xFF800000#32) (Finset.univ.fold max (Ideal.ofBits .f32 0xFF800000#32) fun v => x v)) :
    -(x k - top - Ideal.log (∑ v, Ideal.exp (x v - top))) = rowLoss x k := by
  obtain ⟨μ, hμ⟩ := RowLaw.fold_max_real hx
  rw [Words.minus_inf, hμ, max_eq_right bot_le] at htop
  subst htop
  exact RowLaw.shifted hx k μ

/-- Whether a label counts: it differs from the ignored one. -/
theorem counts_at (ign : BitVec 32) (T : IVec S4x2048 32) (a : Fin 4) (s : Fin 2048) :
    counts ign T (ix2 a s) = IntOp.cmpi .ne (T (ix2 a s)) ign := by
  pointwise [counts]

/-- A label that counts, or zero in its place. -/
theorem safe_at (ign : BitVec 32) (T : IVec S4x2048 32) (a : Fin 4) (s : Fin 2048) :
    safe ign T (ix3 a s 0) = Scalar.select (counts ign T (ix2 a s)) (T (ix2 a s)) 0#32 := by
  pointwise [safe]
  rfl

/-- The row entry that a label names, a negative one counted from the row's end. -/
theorem entry_at (ign n : BitVec 32) (T : IVec S4x2048 32) (a : Fin 4) (s : Fin 2048) :
    entry ign n T (ix4 a s 0 0) = Scalar.select (IntOp.cmpi .slt (safe ign T (ix3 a s 0)) 0#32) (IntOp.addi (safe ign T (ix3 a s 0)) n)
      (safe ign T (ix3 a s 0)) := by
  pointwise [entry]

/-- Whether the named entry lies in the row. -/
theorem inRow_at (ign n last : BitVec 32) (T : IVec S4x2048 32) (a : Fin 4) (s : Fin 2048) :
    inRow ign n last T (ix3 a s 0) = Finset.univ.fold IntOp.andi 1#1 fun x : Fin 1 =>
      IntOp.andi (IntOp.cmpi .sge (entry ign n T (ix4 a s 0 x)) 0#32) (IntOp.cmpi .sle (entry ign n T (ix4 a s 0 x)) last) := by
  pointwise [inRow]

/-- A token's loss: the picked log-probability, or not-a-number for a label outside of the row, with its sign changed. -/
theorem losses_at (ok : IVec S4x2048x1 1) (picked : FVec Ideal S4x2048x1 .f32) (a : Fin 4) (s : Fin 2048) :
    losses ok picked (ix2 a s) = -Scalar.select (ok (ix3 a s 0)) (picked (ix3 a s 0)) (Ideal.ofBits .f32 0x7FC00000#32) := by
  pointwise [losses]

/-- A label that names an entry counts: it is not the ignored label, whose word is negative. -/
theorem counts_one {ign : BitVec 32} (hi : 2 ^ 31 ≤ ign.toNat) (T : IVec S4x2048 32) (a : Fin 4) (s : Fin 2048) {k : ℕ} (hk : k < 2 ^ 31)
    (hT : T (ix2 a s) = BitVec.ofNat 32 k) : counts ign T (ix2 a s) = 1#1 := by
  rw [counts_at, hT, WordCmp.cmpi_ne_eq_toNat, WordCmp.toNat_ofNat_of_lt (by omega), WordCmp.ofBool_decide_eq_one_iff]
  omega

/-- The entry that such a label names is its own. -/
theorem entry_label {ign : BitVec 32} (hi : 2 ^ 31 ≤ ign.toNat) (n : BitVec 32) (T : IVec S4x2048 32) (a : Fin 4) (s : Fin 2048) {k : ℕ}
    (hk : k < 2 ^ 31) (hT : T (ix2 a s) = BitVec.ofNat 32 k) : entry ign n T (ix4 a s 0 0) = BitVec.ofNat 32 k := by
  have h1 : safe ign T (ix3 a s 0) = BitVec.ofNat 32 k := by
    rw [safe_at, counts_one hi T a s hk hT, hT]; rfl
  have h2 : IntOp.cmpi .slt (BitVec.ofNat 32 k) 0#32 = 0#1 := by
    rw [WordCmp.cmpi_slt_zero, WordCmp.ofBool_decide_eq_zero_iff, WordCmp.toNat_ofNat_of_lt (by omega)]
    omega
  rw [entry_at, h1, h2]; rfl

/-- That entry lies in its row. -/
theorem inRow_label {ign : BitVec 32} (hi : 2 ^ 31 ≤ ign.toNat) (n : BitVec 32) {last : ℕ} (hl : last < 2 ^ 31) (T : IVec S4x2048 32) (a : Fin 4)
    (s : Fin 2048) {k : ℕ} (hk : k ≤ last) (hT : T (ix2 a s) = BitVec.ofNat 32 k) : inRow ign n (BitVec.ofNat 32 last) T (ix3 a s 0) = 1#1 := by
  have h1 : IntOp.cmpi .sge (BitVec.ofNat 32 k) 0#32 = 1#1 := by
    rw [WordCmp.cmpi_sge_zero, WordCmp.ofBool_decide_eq_one_iff, WordCmp.toNat_ofNat_of_lt (by omega)]
    omega
  have h2 : IntOp.cmpi .sle (BitVec.ofNat 32 k) (BitVec.ofNat 32 last) = 1#1 := by
    rw [WordCmp.cmpi_sle_ofNat (w := 32) (by omega) (by omega), WordCmp.ofBool_decide_eq_one_iff]
    exact hk
  rw [inRow_at, Finset.univ_unique, Finset.fold_singleton]
  show IntOp.andi (IntOp.andi (IntOp.cmpi .sge (entry ign n T (ix4 a s 0 0)) 0#32) (IntOp.cmpi .sle (entry ign n T (ix4 a s 0 0)) (BitVec.ofNat 32 last))) 1#1 = 1#1
  rw [entry_label hi n T a s (by omega) hT, h1, h2]; rfl

/-- The main loss at a position. -/
theorem lossMain_at (X : FVec Ideal S4x2048x2048 .f32) (T : IVec S4x2048 32) (a : Fin 4) (s : Fin 2048)
    (hx : RowLaw.Proper fun v : Fin 2048 => X (ix3 a s v)) (k : Fin 2048) (hT : T (ix2 a s) = BitVec.ofNat 32 k.val) :
    lossMain X T (ix2 a s) = rowLoss (fun v => X (ix3 a s v)) k := by
  have hk := k.isLt
  unfold lossMain
  rw [losses_at, inRow_label (by decide) _ (last := 2047) (by norm_num) T a s (by omega) hT,
    Pick.pick _ rfl rfl rfl rfl rfl rfl (logpMain X) _ a s k (entry_label (by decide) _ T a s (by omega) hT) (by norm_num)]
  show -(logpMain X (ix3 a s k)) = _
  rw [logpMain_at]
  simp only [shiftMain_at]
  exact neg_logp hx k (topMain_at X a s)

/-- The chord loss at a position. -/
theorem lossChord_at (X : FVec Ideal S4x2048x60 .f32) (T : IVec S4x2048 32) (a : Fin 4) (s : Fin 2048)
    (hx : RowLaw.Proper fun v : Fin 60 => X (ix3 a s v)) (k : Fin 60) (hT : T (ix2 a s) = BitVec.ofNat 32 k.val) :
    lossChord X T (ix2 a s) = rowLoss (fun v => X (ix3 a s v)) k := by
  have hk := k.isLt
  unfold lossChord
  rw [losses_at, inRow_label (by decide) _ (last := 59) (by norm_num) T a s (by omega) hT,
    Pick.pick _ rfl rfl rfl rfl rfl rfl (logpChord X) _ a s k (entry_label (by decide) _ T a s (by omega) hT) (by norm_num)]
  show -(logpChord X (ix3 a s k)) = _
  rw [logpChord_at]
  simp only [shiftChord_at]
  exact neg_logp hx k (topChord_at X a s)

end Cert.ReferenceIdeal.Rows

end
-- ==== Proof.Running.lean ====
/- UNTRUSTED — a running sum along the middle axis of a rank-three array, written as a windowed sum padded low, read at an
   index. Nothing here depends on a program. -/
module

public import Idealize.ShloMosaic.Lib.Pointwise

@[expose] public section

noncomputable section

namespace Cert.Running

open Idealize.ShloMosaic Idealize.SL.Sem

/-- A left fold of additions over all positions is the sum. -/
theorem foldl_add (n : ℕ) (g : Fin n → EReal) : (List.finRange n).foldl (fun r k => r + g k) 0 = ∑ k, g k := by
  rw [← List.sum_ofFn, List.ofFn_eq_map, List.sum_eq_foldl, List.foldl_map]

/-- The window that ends at position `p` and is as long as the axis reads the entries up to `p`, and zero before the first. -/
theorem running {A B C M : ℕ} (hB : M + 1 = B) (x : (⟨3, ![A, B, C]⟩ : Shape).Idx → EReal)
    (h : (⟨3, ![A, B, C]⟩ : Shape).ReduceWindows ![1, B, 1] ![1, 1, 1] ![0, M, 0] ![0, 0, 0] ⟨3, ![A, B, C]⟩)
    (a : Fin A) (p : Fin B) (v : Fin C) :
    Ideal.hostReduceWindowAdd ![1, B, 1] ![1, 1, 1] ![0, M, 0] ![0, 0, 0] h x 0 (ix3 a p v)
      = ∑ w : Fin B, if hw : M ≤ p.val + w.val then x (ix3 a ⟨p.val + w.val - M, by omega⟩ v) else 0 := by
  let G : (⟨3, ![1, B, 1]⟩ : Shape).Idx → EReal := fun i =>
    if hw : M ≤ p.val + (i 1).val then x (ix3 a ⟨p.val + (i 1).val - M, by have := (i 1).isLt; change (i 1).val < B at this; omega⟩ v) else 0
  unfold Ideal.hostReduceWindowAdd Host.reduceWindow
  refine Eq.trans ?_ ((foldl_add _ fun n => G ((⟨3, ![1, B, 1]⟩ : Shape).rowMajor.symm n)).trans ?_)
  · dsimp only
    congr 1
    funext r n
    congr 1
    let i : (⟨3, ![1, B, 1]⟩ : Shape).Idx := (⟨3, ![1, B, 1]⟩ : Shape).rowMajor.symm n
    show _ = G i
    have h0 : (i 0).val = 0 := by have := (i 0).isLt; change (i 0).val < 1 at this; omega
    have h1 : (i 1).val < B := (i 1).isLt
    have h2 : (i 2).val = 0 := by have := (i 2).isLt; change (i 2).val < 1 at this; omega
    have ha := a.isLt
    have hp := p.isLt
    have hv := v.isLt
    by_cases hw : M ≤ p.val + (i 1).val
    · refine (dif_pos ?_).trans (Eq.trans ?_ (dif_pos hw).symm)
      · intro c
        match c with
        | ⟨0, _⟩ => show 0 ≤ a.val * 1 + (i 0).val ∧ a.val * 1 + (i 0).val - 0 < A; omega
        | ⟨1, _⟩ => show M ≤ p.val * 1 + (i 1).val ∧ p.val * 1 + (i 1).val - M < B; omega
        | ⟨2, _⟩ => show 0 ≤ v.val * 1 + (i 2).val ∧ v.val * 1 + (i 2).val - 0 < C; omega
      · refine congrArg x (funext fun c => Fin.ext ?_)
        match c with
        | ⟨0, _⟩ => show a.val * 1 + (i 0).val - 0 = a.val; omega
        | ⟨1, _⟩ => show p.val * 1 + (i 1).val - M = p.val + (i 1).val - M; omega
        | ⟨2, _⟩ => show v.val * 1 + (i 2).val - 0 = v.val; omega
    · refine (dif_neg ?_).trans (show G i = 0 from dif_neg hw).symm
      intro hc
      have := (hc 1).1
      change M ≤ p.val * 1 + (i 1).val at this
      omega
  · rw [Fintype.sum_equiv (⟨3, ![1, B, 1]⟩ : Shape).rowMajor.symm _ G fun _ => rfl, sum_idx3]
    simp only [Fin.sum_univ_one]
    exact Finset.sum_congr rfl fun w _ => rfl

end Cert.Running

end
-- ==== Proof.Weights.lean ====
/- UNTRUSTED — weighing sums of extended reals by nonnegative reals. Nothing here depends on a program. -/
module

public import Idealize.ShloMosaic.Lib.Pointwise

@[expose] public section

noncomputable section

namespace Cert.Weights

open Idealize.ShloMosaic

/-- Dividing by a real that is not zero is multiplying by its inverse. -/
theorem div_real (x : EReal) {r : ℝ} (h : r ≠ 0) : Ideal.div x (r : EReal) = x * ((r⁻¹ : ℝ) : EReal) := by
  unfold Ideal.div
  rw [if_neg (by exact_mod_cast h), EReal.coe_inv]

/-- A nonnegative real weight distributes over a sum, whatever infinities the sum holds. -/
theorem sum_mul {n : ℕ} (f : Fin n → EReal) {c : ℝ} (hc : 0 ≤ c) : (∑ t, f t) * (c : EReal) = ∑ t, f t * (c : EReal) := by
  induction n with
  | zero => simp
  | succ n ih =>
    rw [Fin.sum_univ_succ, Fin.sum_univ_succ,
      EReal.right_distrib_of_nonneg_of_ne_top (EReal.coe_nonneg.2 hc) (EReal.coe_ne_top c), ih]

/-- A sum of weighted triples is the weighted triple of the sums. -/
theorem sum_triple {n : ℕ} (m c s : Fin n → EReal) {A B C : ℝ} (hA : 0 ≤ A) (hB : 0 ≤ B) (hC : 0 ≤ C) :
    ∑ t, (m t * (A : EReal) + c t * (B : EReal) + s t * (C : EReal))
      = (∑ t, m t) * (A : EReal) + (∑ t, c t) * (B : EReal) + (∑ t, s t) * (C : EReal) := by
  rw [Finset.sum_add_distrib, Finset.sum_add_distrib, sum_mul m hA, sum_mul c hB, sum_mul s hC]

end Cert.Weights

end
-- ==== Proof.Repetition.lean ====
/- UNTRUSTED — the reference's repetition term is a constant: whatever the labels are, provided that each names a vocabulary
   entry, the windowed counts at a position sum to the number of earlier positions in the window, at most eight. -/
module

public import proofs.«01_k».proof.Proof.Stages
public import proofs.«01_k».proof.Proof.RowLaw
public import proofs.«01_k».proof.Proof.Running
public import proofs.«01_k».proof.Proof.Losses
public import proofs.«01_k».proof.Proof.Weights
public import proofs.«01_k».proof.Proof.Words
public import Idealize.ShloMosaic.Lib.Pointwise

@[expose] public section

set_option maxRecDepth 16384

noncomputable section

namespace Cert.ReferenceIdeal.Repetition

open Cert.ReferenceIdeal Cert.ReferenceIdeal.Gen Cert.ReferenceIdeal.Stages Idealize.ShloMosaic Idealize.ShloMosaic.TcCoe Idealize.SL.Sem

/-- The running sum at a position reads the entries up to that position, and zero before the first. -/
theorem running_at (H : FVec Ideal S4x2048x2048 .f32) (a : Fin 4) (p v : Fin 2048) :
    running H (ix3 a p v) = ∑ w : Fin 2048, if h : 2047 ≤ p.val + w.val then H (ix3 a ⟨p.val + w.val - 2047, by omega⟩ v) else 0 := by
  have hz : (broadcastInDim S_ ![] bcast_S_S_ (constant (F := Ideal) S_ .f32 0x00000000#32)) (Shape.Idx.first h_S_) = (0 : EReal) := Words.zero_word
  unfold running Host.reduceWindowAdd
  rw [Ideal.hostReduceWindowAdd_def, hz]
  exact Running.running (by norm_num) H _ a p v

/-- The ids moved on by one token, with zero in front. -/
theorem moved_at (T : IVec S4x2048 32) (a : Fin 4) (s : Fin 2048) :
    moved T (ix2 a s) = if h : s.val < 1 then 0#32 else T (ix2 a ⟨s.val - 1, by omega⟩) := by
  pointwise [moved]

/-- A one-hot entry: whether the token's id is this one. -/
theorem hot_at (T : IVec S4x2048 32) (a : Fin 4) (s v : Fin 2048) :
    hot (F := Ideal) T (ix3 a s v) = FloatOps.uitofp FTy.f32 (IntOp.cmpi CmpIPredicate.eq (moved T (ix2 a s)) (BitVec.ofNat 32 v.val)) := by
  pointwise [hot]

/-- A windowed count: the running count up to the token before, less the one up to eight tokens earlier. -/
theorem window_at (C : FVec Ideal S4x2048x2048 .f32) (a : Fin 4) (s v : Fin 2048) :
    window C (ix3 a s v) = (if h : 1 ≤ s.val ∧ s.val - 1 < 2048 then C (ix3 a ⟨s.val - 1, h.2⟩ v) else FloatOps.sitofp FTy.f32 0#32)
      - if h : 9 ≤ s.val ∧ s.val - 9 < 2048 then C (ix3 a ⟨s.val - 9, h.2⟩ v) else FloatOps.sitofp FTy.f32 0#32 := by
  pointwise [window]

/-- The repetition loss: half of the mean windowed count. -/
theorem repetition_at (T : IVec S4x2048 32) :
    repetition (F := Ideal) T ix0 = Ideal.ofBits FTy.f32 1056964608#32 *
      Ideal.div (∑ a, ∑ s, ∑ v, window (running (hot (F := Ideal) T)) (ix3 a s v)) (Ideal.ofBits FTy.f32 1266679808#32) := by
  pointwise [repetition]

/-- The labels name vocabulary entries, so the moved labels do. -/
theorem moved_entry (T : IVec S4x2048 32) (hT : ∀ a s, ∃ k : Fin 2048, T (ix2 a s) = BitVec.ofNat 32 k.val) (a : Fin 4) (s : Fin 2048) :
    ∃ k : Fin 2048, moved T (ix2 a s) = BitVec.ofNat 32 k.val := by
  rw [moved_at]
  split
  · exact ⟨0, rfl⟩
  · exact hT _ _

/-- The one-hot entries are real, zero or one. -/
theorem hot_real (T : IVec S4x2048 32) (k : Fin 4 → Fin 2048 → Fin 2048) (hk : ∀ a s, moved T (ix2 a s) = BitVec.ofNat 32 (k a s).val)
    (a : Fin 4) (s v : Fin 2048) : hot (F := Ideal) T (ix3 a s v) = (((if k a s = v then 1 else 0 : ℝ)) : EReal) := by
  rw [hot_at, hk, Losses.word_eq (by norm_num)]
  split
  · show (((1#1 : BitVec 1).toNat : ℝ) : EReal) = _; norm_num
  · show (((0#1 : BitVec 1).toNat : ℝ) : EReal) = _; norm_num

/-- The running sum at a position, as a real number. -/
def upTo (k : Fin 2048 → Fin 2048) (p : ℕ) (v : Fin 2048) : ℝ :=
  ∑ w : Fin 2048, if h : 2047 ≤ p + w.val ∧ p < 2048 then (if k ⟨p + w.val - 2047, by omega⟩ = v then 1 else 0) else 0

/-- The running one-hot sums are the real counts `upTo`. -/
theorem running_real (T : IVec S4x2048 32) (k : Fin 4 → Fin 2048 → Fin 2048) (hk : ∀ a s, moved T (ix2 a s) = BitVec.ofNat 32 (k a s).val)
    (a : Fin 4) (p v : Fin 2048) : running (hot (F := Ideal) T) (ix3 a p v) = ((upTo (k a) p.val v : ℝ) : EReal) := by
  rw [running_at, upTo, ← RowLaw.coe_sum]
  refine Finset.sum_congr rfl fun w _ => ?_
  by_cases h : 2047 ≤ p.val + w.val
  · rw [dif_pos h, dif_pos ⟨h, p.isLt⟩, hot_real T k hk]
  · rw [dif_neg h, dif_neg fun h' => h h'.1]; rfl

/-- Over the whole vocabulary, the running sum counts the positions. -/
theorem sum_upTo (k : Fin 2048 → Fin 2048) (p : ℕ) (hp : p < 2048) : ∑ v, upTo k p v = ((p + 1 : ℕ) : ℝ) := by
  unfold upTo
  rw [Finset.sum_comm]
  have e : ∀ w : Fin 2048, (∑ v : Fin 2048, if h : 2047 ≤ p + w.val ∧ p < 2048 then (if k ⟨p + w.val - 2047, by omega⟩ = v then (1 : ℝ) else 0) else 0)
      = if 2047 ≤ p + w.val then 1 else 0 := fun w => by
    by_cases h : 2047 ≤ p + w.val
    · rw [if_pos h]
      refine (Finset.sum_congr rfl fun v _ => dif_pos (show 2047 ≤ p + w.val ∧ p < 2048 from ⟨h, hp⟩)).trans ?_
      rw [Finset.sum_ite_eq]; exact if_pos (Finset.mem_univ _)
    · rw [if_neg h]
      exact Finset.sum_eq_zero fun v _ => dif_neg fun h' => h h'.1
  rw [Finset.sum_congr rfl fun w _ => e w, Fin.sum_univ_eq_sum_range (fun w => if 2047 ≤ p + w then (1 : ℝ) else 0) 2048,
    show 2048 = (2047 - p) + (p + 1) by omega, Finset.sum_range_add,
    Finset.sum_eq_zero fun w hw => if_neg (by have := Finset.mem_range.1 hw; omega),
    Finset.sum_congr rfl fun w _ => if_pos (show 2047 ≤ p + (2047 - p + w) by omega)]
  simp

/-- The windowed count at a position, as a real number. -/
def windowed (k : Fin 2048 → Fin 2048) (s : ℕ) (v : Fin 2048) : ℝ :=
  (if 1 ≤ s then upTo k (s - 1) v else 0) - if 9 ≤ s then upTo k (s - 9) v else 0

/-- The windowed counts are the real counts `windowed`. -/
theorem window_real (T : IVec S4x2048 32) (k : Fin 4 → Fin 2048 → Fin 2048) (hk : ∀ a s, moved T (ix2 a s) = BitVec.ofNat 32 (k a s).val)
    (a : Fin 4) (s v : Fin 2048) : window (running (hot (F := Ideal) T)) (ix3 a s v) = ((windowed (k a) s.val v : ℝ) : EReal) := by
  have hz : FloatOps.sitofp (F := Ideal) FTy.f32 0#32 = ((0 : ℝ) : EReal) := by
    show ((((0#32 : BitVec 32).toInt : ℤ) : ℝ) : EReal) = _; simp
  have part : ∀ d : ℕ, (if h : d ≤ s.val ∧ s.val - d < 2048 then running (hot (F := Ideal) T) (ix3 a ⟨s.val - d, h.2⟩ v) else FloatOps.sitofp FTy.f32 0#32)
      = (((if d ≤ s.val then upTo (k a) (s.val - d) v else 0 : ℝ)) : EReal) := fun d => by
    by_cases h : d ≤ s.val
    · rw [dif_pos ⟨h, by omega⟩, if_pos h, running_real T k hk]
    · rw [dif_neg fun h' => h h'.1, if_neg h, hz]
  rw [window_at, part 1, part 9, windowed, EReal.coe_sub]

/-- Over the whole vocabulary, the windowed counts at a position sum to the number of positions that the window holds. -/
theorem sum_windowed (k : Fin 2048 → Fin 2048) (s : Fin 2048) : ∑ v, windowed k s.val v = (s.val : ℝ) - ((s.val - 8 : ℕ) : ℝ) := by
  have part : ∀ d : ℕ, 1 ≤ d → (∑ v, if d ≤ s.val then upTo k (s.val - d) v else 0) = ((s.val - (d - 1) : ℕ) : ℝ) := fun d hd => by
    by_cases h : d ≤ s.val
    · simp only [if_pos h]
      rw [sum_upTo k _ (by omega)]; congr 1; omega
    · simp only [if_neg h]
      rw [show s.val - (d - 1) = 0 by omega]; simp
  unfold windowed
  rw [Finset.sum_sub_distrib, part 1 le_rfl, part 9 (by norm_num)]
  rfl

/-- Moving a sum of naturals eight places along. -/
theorem sum_less_eight (n : ℕ) : ∑ i ∈ Finset.range (n + 8), (i - 8) = ∑ i ∈ Finset.range n, i := by
  rw [Nat.add_comm, Finset.sum_range_add, Finset.sum_eq_zero fun i hi => by have := Finset.mem_range.1 hi; omega, Nat.zero_add]
  exact Finset.sum_congr rfl fun i _ => by omega

/-- The windows' lengths, added up over the positions of a sequence. -/
theorem sum_positions : ∑ s : Fin 2048, ((s.val : ℝ) - ((s.val - 8 : ℕ) : ℝ)) = 16348 := by
  rw [Finset.sum_sub_distrib, Fin.sum_univ_eq_sum_range (fun i => (i : ℝ)) 2048, Fin.sum_univ_eq_sum_range (fun i => ((i - 8 : ℕ) : ℝ)) 2048,
    ← Nat.cast_sum, ← Nat.cast_sum, show 2048 = 2040 + 8 from rfl, sum_less_eight, Finset.sum_range_id, Finset.sum_range_id]
  norm_num

/-- The repetition term: half of 65392 over the number of entries. -/
theorem repetition_eq (T : IVec S4x2048 32) (hT : ∀ a s, ∃ k : Fin 2048, T (ix2 a s) = BitVec.ofNat 32 k.val) :
    repetition (F := Ideal) T ix0 = ((1 / 2 * (65392 / 16777216) : ℝ) : EReal) := by
  choose k hk using moved_entry T hT
  have hs : (∑ a, ∑ s, ∑ v, window (running (hot (F := Ideal) T)) (ix3 a s v)) = ((65392 : ℝ) : EReal) := by
    simp only [window_real T k hk, RowLaw.coe_sum]
    congr 1
    simp only [sum_windowed, sum_positions]
    norm_num
  rw [repetition_at, hs, Words.half, Words.count_entries, Weights.div_real _ (by norm_num), ← EReal.coe_mul, ← EReal.coe_mul]
  norm_num

end Cert.ReferenceIdeal.Repetition

end
-- ==== Proof.RefTotal.lean ====
/- UNTRUSTED — the reference's total in closed form, for labels that name entries of proper rows: the mean row losses, the
   constant repetition term and the mean binary cross entropy, each weighed. -/
module

public import proofs.«01_k».proof.Proof.RefRows
public import proofs.«01_k».proof.Proof.Repetition
public import proofs.«01_k».proof.Proof.Weights

@[expose] public section

set_option maxRecDepth 16384

noncomputable section

namespace Cert.ReferenceIdeal.Total

open Cert.ReferenceIdeal Cert.ReferenceIdeal.Gen Cert.ReferenceIdeal.Stages Idealize.ShloMosaic Idealize.ShloMosaic.TcCoe Idealize.SL.Sem
open Cert.ReferenceIdeal.Rows Cert.Losses

/-- The mean over the labels that count: the summed losses over the number of those labels, at least one. -/
theorem meanOver_at (L : FVec Ideal S4x2048 .f32) (V : IVec S4x2048 1) :
    meanOver L V ix0 = Ideal.div (∑ a, ∑ s, L (ix2 a s) * FloatOps.uitofp (F := Ideal) .f32 (V (ix2 a s)))
      (FloatOps.sitofp (F := Ideal) .f32 (IntOp.maxsi (Finset.univ.fold IntOp.addi 0#32 fun k : Fin 4 × Fin 2048 => BitVec.setWidth 32 (V (ix2 k.1 k.2))) 1#32)) := by
  pointwise [meanOver]

/-- The mean binary cross entropy, as a sum over tokens and entries. -/
theorem entropy_at (X Y : FVec Ideal S4x2048x12 .f32) :
    entropy X Y ix0 = Ideal.div (∑ a, ∑ s, ∑ k, entryLoss (X (ix3 a s k)) (Y (ix3 a s k))) (Ideal.ofBits .f32 0x47C00000#32) := by
  pointwise [entropy]
  rfl

/-- The result as the weighted sum of its four losses. -/
theorem total_at (X : FVec Ideal S4x2048x2048 .f32) (C : FVec Ideal S4x2048x60 .f32) (S Y : FVec Ideal S4x2048x12 .f32) (T U : IVec S4x2048 32) :
    total X C S Y T U ix0 = meanOver (lossMain X T) (counts 4294967196#32 T) ix0 + Ideal.ofBits .f32 0x3D4CCCCD#32 * repetition (F := Ideal) T ix0
      + Ideal.ofBits .f32 0x3E4CCCCD#32 * meanOver (lossChord C U) (counts 3294967296#32 U) ix0 + Ideal.ofBits .f32 0x3DCCCCCD#32 * entropy S Y ix0 := by
  pointwise [total]

/-- A fold of additions of ones counts them. -/
theorem fold_ones {ι : Type} (s : Finset ι) : s.fold IntOp.addi 0#32 (fun _ => 1#32) = BitVec.ofNat 32 s.card := by
  classical
  induction s using Finset.induction_on with
  | empty => rfl
  | insert a s ha ih =>
    rw [Finset.fold_insert ha, ih, Finset.card_insert_of_notMem ha, Nat.add_comm]
    exact (BitVec.ofNat_add 1 s.card).symm

/-- When every label counts, the mean is the sum over the 8192 positions. -/
theorem meanOver_all (L : FVec Ideal S4x2048 .f32) (V : IVec S4x2048 1) (hV : ∀ a s, V (ix2 a s) = 1#1) :
    meanOver L V ix0 = (∑ a, ∑ s, L (ix2 a s)) * ((8192⁻¹ : ℝ) : EReal) := by
  have h1 : FloatOps.uitofp (F := Ideal) .f32 1#1 = (1 : EReal) := by
    show (((1#1 : BitVec 1).toNat : ℝ) : EReal) = _; norm_num
  have h2 : FloatOps.sitofp (F := Ideal) .f32 (IntOp.maxsi (BitVec.ofNat 32 8192) 1#32) = ((8192 : ℝ) : EReal) := by
    show ((((IntOp.maxsi (BitVec.ofNat 32 8192) 1#32).toInt : ℤ) : ℝ) : EReal) = _
    rw [show (IntOp.maxsi (BitVec.ofNat 32 8192) 1#32).toInt = 8192 from by decide]; norm_num
  rw [meanOver_at]
  simp only [hV, h1, mul_one]
  rw [show BitVec.setWidth 32 1#1 = 1#32 from rfl, fold_ones, show (Finset.univ : Finset (Fin 4 × Fin 2048)).card = 8192 from by simp, h2,
    Weights.div_real _ (by norm_num)]

/-- The reference's total, for labels `k` and `l` that name entries of proper rows. -/
theorem total_eq (X : FVec Ideal S4x2048x2048 .f32) (C : FVec Ideal S4x2048x60 .f32) (S Y : FVec Ideal S4x2048x12 .f32) (T U : IVec S4x2048 32)
    (hX : ∀ a s, RowLaw.Proper fun v : Fin 2048 => X (ix3 a s v)) (hC : ∀ a s, RowLaw.Proper fun v : Fin 60 => C (ix3 a s v))
    (k : Fin 4 → Fin 2048 → Fin 2048) (hT : ∀ a s, T (ix2 a s) = BitVec.ofNat 32 (k a s).val)
    (l : Fin 4 → Fin 2048 → Fin 60) (hU : ∀ a s, U (ix2 a s) = BitVec.ofNat 32 (l a s).val) :
    total X C S Y T U ix0
      = (∑ a, ∑ s, rowLoss (fun v => X (ix3 a s v)) (k a s)) * ((8192⁻¹ : ℝ) : EReal)
        + ((Words.repWeight * (1 / 2 * (65392 / 16777216)) : ℝ) : EReal)
        + (Words.chordWeight : EReal) * ((∑ a, ∑ s, rowLoss (fun v => C (ix3 a s v)) (l a s)) * ((8192⁻¹ : ℝ) : EReal))
        + (Words.scaleWeight : EReal) * ((∑ a, ∑ s, ∑ k, entryLoss (S (ix3 a s k)) (Y (ix3 a s k))) * ((98304⁻¹ : ℝ) : EReal)) := by
  rw [total_at, Words.rep_weight, Words.chord_weight, Words.scale_weight, Repetition.repetition_eq T fun a s => ⟨k a s, hT a s⟩, ← EReal.coe_mul,
    meanOver_all _ _ fun a s => counts_one (by decide) T a s (k := (k a s).val) (by omega) (hT a s),
    meanOver_all _ _ fun a s => counts_one (by decide) U a s (k := (l a s).val) (by omega) (hU a s),
    entropy_at, Words.scale_entries, Weights.div_real _ (by norm_num)]
  simp only [fun a s => lossMain_at X T a s (hX a s) (k a s) (hT a s), fun a s => lossChord_at C U a s (hC a s) (l a s) (hU a s)]

end Cert.ReferenceIdeal.Total

end
-- ==== Proof.Valid.lean ====
/- UNTRUSTED — what the precondition `admissible` says of the arrays: every row of logits is proper (no entry `+∞`, some entry
   not `-∞`) and every label names an entry of its row. -/
module

public import proofs.«01_k».proof.Pre_admissible
public import proofs.«01_k».proof.Proof.RowLaw
public import Idealize.ShloMosaic.Lib.Pointwise
public import Idealize.ShloMosaic.Lib.ReduceAll
public import Idealize.ShloMosaic.Lib.WordCmp
public import proofs.«01_k».proof.Proof.Words
public import proofs.«01_k».proof.Proof.LastAxis

@[expose] public section

set_option maxRecDepth 16384

noncomputable section

namespace Cert.Valid

open Cert.Pre_admissible Idealize.ShloMosaic Idealize.SL.Sem

/-- The two arrays of logits and the two of labels, as the precondition restricts them. -/
structure Valid (X : FVec Ideal S4x2048x2048 .f32) (C : FVec Ideal S4x2048x60 .f32) (T U : IVec S4x2048 32) : Prop where
  /-- each row of the main logits is proper -/
  main : ∀ a s, RowLaw.Proper fun v : Fin 2048 => X (ix3 a s v)
  /-- each row of the chord logits is proper -/
  chord : ∀ a s, RowLaw.Proper fun v : Fin 60 => C (ix3 a s v)
  /-- each main label names an entry -/
  mainLabel : ∀ a s, ∃ k : Fin 2048, T (ix2 a s) = BitVec.ofNat 32 k.val
  /-- each chord label names an entry -/
  chordLabel : ∀ a s, ∃ k : Fin 60, U (ix2 a s) = BitVec.ofNat 32 k.val

/-- A fold by `or` that is one met a one. -/
theorem fold_or {ι : Type} (s : Finset ι) (f : ι → BitVec 1) (h : s.fold IntOp.ori 0#1 f = 1#1) : ∃ i ∈ s, f i = 1#1 := by
  classical
  induction s using Finset.induction_on with
  | empty => rw [Finset.fold_empty] at h; exact absurd h (by decide)
  | insert a s ha ih =>
    rw [Finset.fold_insert ha] at h
    by_cases hf : f a = 1#1
    · exact ⟨a, Finset.mem_insert_self _ _, hf⟩
    · have h0 : f a = 0#1 := by revert hf; generalize f a = b; revert b; decide
      rw [h0] at h
      obtain ⟨i, hi, e⟩ := ih (by revert h; generalize s.fold IntOp.ori 0#1 f = b; revert b; decide)
      exact ⟨i, Finset.mem_insert_of_mem hi, e⟩

/-- A word between zero and `n` names an entry of a row of `n`. -/
theorem label {n : ℕ} (hn : n < 2 ^ 31) (w : BitVec 32)
    (h : IntOp.andi (IntOp.cmpi .sge w 0#32) (IntOp.cmpi .slt w (BitVec.ofNat 32 n)) = 1#1) : ∃ k : Fin n, w = BitVec.ofNat 32 k.val := by
  rw [WordCmp.andi_sge_zero_slt_ofNat (w := 32) hn, WordCmp.ofBool_decide_eq_one_iff] at h
  exact ⟨⟨w.toNat, h⟩, by simp⟩

/-- An entry compared below `+∞`. -/
theorem lt_top (x : EReal) (h : FloatOps.cmpf (F := Ideal) (φ := .f32) .olt x (Ideal.ofBits .f32 0x7F800000#32) = 1#1) : x < ⊤ := by
  rw [Words.plus_inf] at h
  exact of_decide_eq_true ((WordCmp.ofBool_eq_one_iff _).1 h)

/-- An entry compared above `-∞`. -/
theorem bot_lt (x : EReal) (h : FloatOps.cmpf (F := Ideal) (φ := .f32) .ogt x (Ideal.ofBits .f32 0xFF800000#32) = 1#1) : ⊥ < x := by
  rw [Words.minus_inf] at h
  exact of_decide_eq_true ((WordCmp.ofBool_eq_one_iff _).1 h)

/-- Two words whose `and` is one are both one. -/
theorem both {x y : BitVec 1} (h : IntOp.andi x y = 1#1) : x = 1#1 ∧ y = 1#1 := by
  revert x y; decide

/-- An array without axes has one index. -/
theorem subsingleton0 : Subsingleton S_.Idx := ⟨fun _ _ => funext fun a => a.elim0⟩

/-- A row each of whose entries compares below `+∞` and one of whose entries compares above `-∞` is proper. -/
theorem proper {N : ℕ} (x : (⟨3, ![4, 2048, N]⟩ : Shape).Idx → EReal) (h : (⟨3, ![4, 2048, N]⟩ : Shape).ReducesTo [2] S4x2048) (hu : 0 < S_.numel)
    (hlt : ∀ i, FloatOps.cmpf (F := Ideal) (φ := .f32) .olt (x i) (Ideal.ofBits .f32 0x7F800000#32) = 1#1)
    (hgt : ∀ i, Host.reduce IntOp.ori (fun i => FloatOps.cmpf (F := Ideal) (φ := .f32) .ogt (x i) (Ideal.ofBits .f32 0xFF800000#32))
      (constantI S_ 1 0#1) h hu i = 1#1) (a : Fin 4) (s : Fin 2048) : RowLaw.Proper fun v : Fin N => x (ix3 a s v) := by
  refine ⟨fun v => lt_top _ (hlt _), ?_⟩
  have e := hgt (ix2 a s)
  rw [LastAxis.reduce] at e
  obtain ⟨v, _, hv⟩ := fold_or _ _ e
  exact ⟨v, bot_lt _ hv⟩

variable [Cert.Pre_admissible.Facts]

/-- Arguments that meet the precondition have proper rows, and labels that name entries of their rows. -/
theorem valid (X : FVec Ideal S4x2048x2048 .f32) (C : FVec Ideal S4x2048x60 .f32) (S Y : FVec Ideal S4x2048x12 .f32) (T : IVec S4x2048 32)
    (I : IVec S4 32) (U : IVec S4x2048 32) (h : fn (F := Ideal) X C S Y T I U = fun _ => 1#1) : Valid X C T U := by
  have e := congrFun h ix0
  obtain ⟨e, hU⟩ := both e
  obtain ⟨e, hT⟩ := both e
  obtain ⟨hX, hC⟩ := both e
  obtain ⟨hX1, hX2⟩ := both hX
  obtain ⟨hC1, hC2⟩ := both hC
  haveI := subsingleton0
  exact {
    main := proper X _ _ (Host.reduce_andi_all _ _ _ _ _ hX1) (Host.reduce_andi_all _ _ _ _ _ hX2)
    chord := proper C _ _ (Host.reduce_andi_all _ _ _ _ _ hC1) (Host.reduce_andi_all _ _ _ _ _ hC2)
    mainLabel := fun a s => label (by norm_num) _ (Host.reduce_andi_all _ _ _ _ _ hT (ix2 a s))
    chordLabel := fun a s => label (by norm_num) _ (Host.reduce_andi_all _ _ _ _ _ hU (ix2 a s)) }

end Cert.Valid

end
-- ==== Proof.Equation.lean ====
/- UNTRUSTED — the kernel's weighed steps, added up, are the reference's total. -/
module

public import proofs.«01_k».proof.Proof.Value
public import proofs.«01_k».proof.Proof.RefTotal
public import proofs.«01_k».proof.Proof.Valid

@[expose] public section

set_option maxRecDepth 16384

noncomputable section

namespace Cert.Equation

open Cert.KernelIdeal Cert.KernelIdeal.Gen Idealize.ShloMosaic Idealize.ShloMosaic.TcCoe Idealize.SL.Sem Cert.Losses Cert.KernelIdeal.Blocks Cert.KernelIdeal.Value

/-- A sum over the steps and their rows is a sum over the batches and their tokens. -/
theorem by_token (f : Fin 4 → Fin 2048 → EReal) : ∑ t : Fin cfg0.N, ∑ r : Fin 512, f (batch t) (token t r) = ∑ a, ∑ s, f a s := by
  refine Fin.sum_points_lanes_congr 4 fun t r ha hl => ?_
  rfl

variable (m : (ℓ : Loc nD τ sig) → Buf (Elt Ideal) ℓ) (c : Dev nD)

/-- The accumulator's last value, with the three sums taken over all tokens. -/
theorem steps_sum (k : Fin 4 → Fin 2048 → Fin 2048) (l : Fin 4 → Fin 2048 → Fin 60) :
    ∑ t : Fin cfg0.N, added m c k l t
      = (∑ a, ∑ s, rowLoss (fun v : Fin 2048 => m ((c.tc : Thread nD τ).loc main_arg0) (ix3 a s v)) (k a s)) * ((1 / 8192 : ℝ) : EReal)
        + (∑ a, ∑ s, rowLoss (fun v : Fin 60 => m ((c.tc : Thread nD τ).loc main_arg1) (ix3 a s v)) (l a s)) * ((Words.chordWeight / 8192 : ℝ) : EReal)
        + (∑ a, ∑ s, ∑ v : Fin 12, entryLoss (m ((c.tc : Thread nD τ).loc main_arg2) (ix3 a s v)) (m ((c.tc : Thread nD τ).loc main_arg3) (ix3 a s v)))
          * ((Words.scaleWeight / 98304 : ℝ) : EReal) := by
  unfold added
  rw [Weights.sum_triple _ _ _ (by norm_num) (by norm_num) (by norm_num)]
  unfold mainOf chordOf scaleOf
  rw [by_token fun a s => rowLoss (fun v : Fin 2048 => m ((c.tc : Thread nD τ).loc main_arg0) (ix3 a s v)) (k a s),
    by_token fun a s => rowLoss (fun v : Fin 60 => m ((c.tc : Thread nD τ).loc main_arg1) (ix3 a s v)) (l a s),
    by_token fun a s => ∑ v : Fin 12, entryLoss (m ((c.tc : Thread nD τ).loc main_arg2) (ix3 a s v)) (m ((c.tc : Thread nD τ).loc main_arg3) (ix3 a s v))]

/-- The two programs weigh the three sums alike, in any order. -/
theorem weights_agree (M C S : EReal) (r : EReal) :
    r + (M * ((1 / 8192 : ℝ) : EReal) + C * ((Words.chordWeight / 8192 : ℝ) : EReal) + S * ((Words.scaleWeight / 98304 : ℝ) : EReal))
      = M * ((8192⁻¹ : ℝ) : EReal) + r + (Words.chordWeight : EReal) * (C * ((8192⁻¹ : ℝ) : EReal)) + (Words.scaleWeight : EReal) * (S * ((98304⁻¹ : ℝ) : EReal)) := by
  have e : ∀ (w d : ℝ) (x : EReal), (w : EReal) * (x * ((d⁻¹ : ℝ) : EReal)) = x * ((w / d : ℝ) : EReal) := fun w d x => by
    rw [mul_left_comm, ← EReal.coe_mul, div_eq_mul_inv]
  rw [e, e, one_div]
  ac_rfl

/-- The accumulator's last value is the reference's total. -/
theorem final_eq (X : FVec Ideal S4x2048x2048 .f32) (C : FVec Ideal S4x2048x60 .f32) (S Y : FVec Ideal S4x2048x12 .f32)
    (T U : Vec Ideal S4x2048 .i32) (I : Vec Ideal Cert.Pre_admissible.S4 .i32) [Cert.Pre_admissible.Facts]
    (h : Cert.Pre_admissible.fn (F := Ideal) X C S Y T I U = fun _ => 1#1)
    (hX : m ((c.tc : Thread nD τ).loc main_arg0) = X) (hC : m ((c.tc : Thread nD τ).loc main_arg1) = C)
    (hS : m ((c.tc : Thread nD τ).loc main_arg2) = S) (hY : m ((c.tc : Thread nD τ).loc main_arg3) = Y)
    (hT : m ((c.tc : Thread nD τ).loc main_arg4) = T) (hU : m ((c.tc : Thread nD τ).loc main_arg6) = U) :
    (dats m 0 c).arrAt 5 (cfgs 0).N = fun _ => Cert.ReferenceIdeal.Stages.total (F := Ideal) X C S Y T U ix0 := by
  have v := Valid.valid X C S Y T I U h
  choose k hk using v.mainLabel
  choose l hl using v.chordLabel
  rw [final m c k l (fun a s => by rw [hT]; exact hk a s) (fun a s => by rw [hU]; exact hl a s), steps_sum, hX, hC, hS, hY,
    weights_agree, Cert.ReferenceIdeal.Total.total_eq X C S Y T U v.main v.chord k hk l hl]

end Cert.Equation

end
-- ==== Proof.Tail.lean ====
/- UNTRUSTED — the kernel's result: the one entry of its accumulator. -/
module

public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Tail

open Cert.KernelIdeal Cert.KernelIdeal.Gen Idealize.ShloMosaic Idealize.ShloMosaic.TcCoe Idealize.SL.Sem

variable (m : (ℓ : Loc nD τ sig) → Buf (Elt Ideal) ℓ) (c : Dev nD)

/-- Reading the accumulator out: if all of its entries hold `x`, so does the result. -/
theorem read_out (W : Valuation τ sig (Elt Ideal)) (x : EReal) (h : W (Proc.devRef .tc main_v3) = fun _ => x) :
    StableHlo.after [hostOps1].flatten W (Proc.devRef .tc main_v4) = fun _ => x := by
  simp only [hostOps1, List.flatten_cons, List.flatten_nil, List.append_nil, StableHlo.after_cons, StableHlo.after_nil]
  after_results_simp
  rw [h]
  rfl

/-- The result holds what the accumulator's one entry holds. -/
theorem result (x : EReal) (h : (dats m 0 c).arrAt 5 (cfgs 0).N = fun _ => x) :
    Pipeline.afterTail₀ cfgs (dats m) 0 (V0 m) [hostOps1] c main_v4 = fun _ => x :=
  read_out _ x ((Pipeline.withArrays_arr spec0 (by decide) c (V0 m c) (fun w => (dats m 0 c).arrAt w (cfgs 0).N) 5).trans h)

end Cert.KernelIdeal.Tail

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_admissible
public import proofs.«01_k».proof.Proof.Equation
public import proofs.«01_k».proof.Proof.Tail
public import Idealize.ShloMosaic.Lib.Claim
public import Idealize.ShloMosaic.Adequacy
public import Idealize.ShloMosaic.Init

@[expose] public section

noncomputable section

namespace Cert.Proof

open Idealize.ShloMosaic Idealize.SL.Sem

/-- The reference leaves its arguments unchanged; it has no semaphore, so every counter ends at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Each of the two named constants has, over the extended reals, the value that it was named for. -/
theorem constants : Cert.preserves_Kernel_KernelIdeal :=
  ⟨IdealRules.named_const.statement Cert.KernelIdeal.κ "scale_weight_over_nk" .f32 0x35888889#32 ((13421773 / 13194139533312 : ℝ) : EReal) rfl,
    IdealRules.named_const.statement Cert.KernelIdeal.κ "rep_term" .f32 0x38CC599A#32 ((54854786251 / 562949953421312 : ℝ) : EReal) rfl⟩

/-- From admissible arguments, the kernel and the reference end with the same loss. -/
theorem same_loss : Cert.algebraic_KernelIdeal_ReferenceIdeal_pre_admissible := by
  pair_intro
  · run_from Cert.KernelIdeal.Gen.run_main m g & Cert.KernelIdeal.Gen.unchanged m g
  · run_from Cert.ReferenceIdeal.Value.run (F := Ideal) m' g'
    obtain ⟨h0, h1, h2, h3, h4, -, h6⟩ := hagree c
    refine Eq.trans ?_ (Cert.KernelIdeal.Tail.result m c _ (Cert.Equation.final_eq m c _ _ _ _ _ _ _ (hpre c) rfl rfl rfl rfl rfl rfl)).symm
    refine (Cert.ReferenceIdeal.Stages.result_eq m' c).trans ?_
    rw [h0, h1, h2, h3, h4, h6]
    exact funext fun i => congrArg _ (Subsingleton.elim i ix0)

/-- All claims of the certificate. -/
theorem claim : Cert.Claim :=
  ⟨Cert.Kernel.Gen.facts, Cert.KernelIdeal.Gen.facts, Cert.ReferenceIdeal.Gen.facts, Cert.Pre_admissible.Gen.facts,
    fun m g _ => Cert.Kernel.Gen.frame m g, fun m g _ => Cert.KernelIdeal.Gen.frame m g, fun m g _ => Cert.KernelIdeal.Gen.frame m g,
    reference_frame, fun m g _ => reference_frame m g trivial, constants, same_loss⟩

end Cert.Proof

end
